-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 1024, 512]⟩ ⟨3, ![2, 1024, 512]⟩ (Layout.meshBlock [2, 2] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![512, 512]⟩ ⟨2, ![1024, 512]⟩ (Layout.meshBlock [2, 2] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1024x512 : Shape := ⟨3, ![1, 1024, 512]⟩
abbrev S512 : Shape := ⟨1, ![512]⟩
abbrev S512x512 : Shape := ⟨2, ![512, 512]⟩
abbrev S256x512 : Shape := ⟨2, ![256, 512]⟩
abbrev S8 : Shape := ⟨1, ![8]⟩
abbrev S2 : Shape := ⟨1, ![2]⟩
abbrev S_ : Shape := ⟨0, ![]⟩
abbrev S1 : Shape := ⟨1, ![1]⟩
abbrev S32x512 : Shape := ⟨2, ![32, 512]⟩
abbrev S1x32x512 : Shape := ⟨3, ![1, 32, 512]⟩
abbrev S1x256x512 : Shape := ⟨3, ![1, 256, 512]⟩
abbrev S1x512 : Shape := ⟨2, ![1, 512]⟩
abbrev S32 : Shape := ⟨1, ![32]⟩
abbrev S32x1 : Shape := ⟨2, ![32, 1]⟩

abbrev nBuf : Space → Nat
  | .hbm => 3
  | .vmem => 6
  | .smem => 0
  | _ => 0

abbrev bufTy : (tb : Table) → Fin (tcTables nBuf tb) → BufTy
  | .hbm, ⟨0, _⟩ => ⟨S1x1024x512, .f32⟩
  | .hbm, ⟨1, _⟩ => ⟨S512, .f32⟩
  | .hbm, ⟨2, _⟩ => ⟨S512x512, .bf16⟩
  | .local _ .vmem, ⟨0, _⟩ => ⟨S256x512, .f32⟩
  | .local _ .vmem, ⟨1, _⟩ => ⟨S256x512, .f32⟩
  | .local _ .vmem, ⟨2, _⟩ => ⟨S512, .f32⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | _, _ => ⟨S1x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  (ofTc nBuf bufTy 1 43 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev barrier0 : Sem sig := 0

abbrev nD : Nat := 4
abbrev τ : Topo := Topo.v7x

variable {F : FTy → Type} [FloatOps F]

abbrev grid0 : Pipeline.Grid := .none

def k0_off1 (d0 : Dev nD) (c0_i32 : BitVec 32) : Fin 3 → Nat :=
  let c0_i32_6 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c512_i32_4 : BitVec 32 := 512#32
  let v11 : BitVec 32 := Scalar.muli v6 c512_i32_4
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32_5 : BitVec 32 := 256#32
  let v12 : BitVec 32 := Scalar.muli v5 c256_i32_5
  let v13 : BitVec 32 := Scalar.addi v11 v12
  let v14 : BitVec 32 := Scalar.addi v13 c0_i32
  let c0_i32_10 : BitVec 32 := 0#32
  ![0, v14.toNat, 0]
def k0_off2 (d0 : Dev nD) : Fin 3 → Nat :=
  let c0_i32_41 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v8 : BitVec 32 := Scalar.muli v2 c512_i32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32 : BitVec 32 := 256#32
  let v9 : BitVec 32 := Scalar.muli v5 c256_i32
  let v10 : BitVec 32 := Scalar.addi v8 v9
  let c0_i32_43 : BitVec 32 := 0#32
  ![0, v10.toNat, 0]
def k0_dev1 (d0 : Dev nD) : Nat :=
  let c0_i32_47 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_46 : BitVec 32 := 2#32
  let v69 : BitVec 32 := Scalar.muli v6 c2_i32_46
  let v70 : BitVec 32 := Scalar.addi c0_i32_47 v69
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_48 : BitVec 32 := 1#32
  let v71 : BitVec 32 := Scalar.muli v5 c1_i32_48
  let v72 : BitVec 32 := Scalar.addi v70 v71
  v72.toNat
def k0_dev2 (d0 : Dev nD) : Nat :=
  let c0_i32_51 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_50 : BitVec 32 := 2#32
  let v73 : BitVec 32 := Scalar.muli v2 c2_i32_50
  let v74 : BitVec 32 := Scalar.addi c0_i32_51 v73
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_52 : BitVec 32 := 1#32
  let v75 : BitVec 32 := Scalar.muli v7 c1_i32_52
  let v76 : BitVec 32 := Scalar.addi v74 v75
  v76.toNat
def k0_dev3 (d0 : Dev nD) : Nat :=
  let c0_i32_65 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_64 : BitVec 32 := 2#32
  let v87 : BitVec 32 := Scalar.muli v6 c2_i32_64
  let v88 : BitVec 32 := Scalar.addi c0_i32_65 v87
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_66 : BitVec 32 := 1#32
  let v89 : BitVec 32 := Scalar.muli v5 c1_i32_66
  let v90 : BitVec 32 := Scalar.addi v88 v89
  v90.toNat
def k0_dev4 (d0 : Dev nD) : Nat :=
  let c0_i32_82 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_81 : BitVec 32 := 2#32
  let v107 : BitVec 32 := Scalar.muli v6 c2_i32_81
  let v108 : BitVec 32 := Scalar.addi c0_i32_82 v107
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_83 : BitVec 32 := 1#32
  let v109 : BitVec 32 := Scalar.muli v5 c1_i32_83
  let v110 : BitVec 32 := Scalar.addi v108 v109
  v110.toNat
def k0_dev5 (d0 : Dev nD) : Nat :=
  let c0_i32_99 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_98 : BitVec 32 := 2#32
  let v127 : BitVec 32 := Scalar.muli v6 c2_i32_98
  let v128 : BitVec 32 := Scalar.addi c0_i32_99 v127
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_100 : BitVec 32 := 1#32
  let v129 : BitVec 32 := Scalar.muli v5 c1_i32_100
  let v130 : BitVec 32 := Scalar.addi v128 v129
  v130.toNat
def k0_dev6 (d0 : Dev nD) : Nat :=
  let c0_i32_116 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_115 : BitVec 32 := 2#32
  let v147 : BitVec 32 := Scalar.muli v6 c2_i32_115
  let v148 : BitVec 32 := Scalar.addi c0_i32_116 v147
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_117 : BitVec 32 := 1#32
  let v149 : BitVec 32 := Scalar.muli v5 c1_i32_117
  let v150 : BitVec 32 := Scalar.addi v148 v149
  v150.toNat
def k0_dev7 (d0 : Dev nD) : Nat :=
  let c0_i32_133 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_132 : BitVec 32 := 2#32
  let v167 : BitVec 32 := Scalar.muli v6 c2_i32_132
  let v168 : BitVec 32 := Scalar.addi c0_i32_133 v167
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_134 : BitVec 32 := 1#32
  let v169 : BitVec 32 := Scalar.muli v5 c1_i32_134
  let v170 : BitVec 32 := Scalar.addi v168 v169
  v170.toNat
def k0_dev8 (d0 : Dev nD) : Nat :=
  let c0_i32_150 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_149 : BitVec 32 := 2#32
  let v187 : BitVec 32 := Scalar.muli v6 c2_i32_149
  let v188 : BitVec 32 := Scalar.addi c0_i32_150 v187
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_151 : BitVec 32 := 1#32
  let v189 : BitVec 32 := Scalar.muli v5 c1_i32_151
  let v190 : BitVec 32 := Scalar.addi v188 v189
  v190.toNat
def k0_dev9 (d0 : Dev nD) : Nat :=
  let c0_i32_167 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_166 : BitVec 32 := 2#32
  let v207 : BitVec 32 := Scalar.muli v6 c2_i32_166
  let v208 : BitVec 32 := Scalar.addi c0_i32_167 v207
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_168 : BitVec 32 := 1#32
  let v209 : BitVec 32 := Scalar.muli v5 c1_i32_168
  let v210 : BitVec 32 := Scalar.addi v208 v209
  v210.toNat
def k0_dev10 (d0 : Dev nD) : Nat :=
  let c0_i32_184 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_183 : BitVec 32 := 2#32
  let v227 : BitVec 32 := Scalar.muli v6 c2_i32_183
  let v228 : BitVec 32 := Scalar.addi c0_i32_184 v227
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_185 : BitVec 32 := 1#32
  let v229 : BitVec 32 := Scalar.muli v5 c1_i32_185
  let v230 : BitVec 32 := Scalar.addi v228 v229
  v230.toNat
def k0_off3 (d0 : Dev nD) (c0_i32_213 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32_212 : BitVec 32 := 256#32
  let v273 : BitVec 32 := Scalar.muli v5 c256_i32_212
  let v274 : BitVec 32 := Scalar.addi v273 c0_i32_213
  let c0_i32_219 : BitVec 32 := 0#32
  ![v274.toNat, 0]
def k0_dev11 (d0 : Dev nD) : Nat :=
  let c0_i32_217 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_216 : BitVec 32 := 2#32
  let v275 : BitVec 32 := Scalar.muli v2 c2_i32_216
  let v276 : BitVec 32 := Scalar.addi c0_i32_217 v275
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_218 : BitVec 32 := 1#32
  let v277 : BitVec 32 := Scalar.muli v7 c1_i32_218
  let v278 : BitVec 32 := Scalar.addi v276 v277
  v278.toNat
def k0_dev12 (d0 : Dev nD) : Nat :=
  let c0_i32_245 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_244 : BitVec 32 := 2#32
  let v315 : BitVec 32 := Scalar.muli v2 c2_i32_244
  let v316 : BitVec 32 := Scalar.addi c0_i32_245 v315
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_246 : BitVec 32 := 1#32
  let v317 : BitVec 32 := Scalar.muli v7 c1_i32_246
  let v318 : BitVec 32 := Scalar.addi v316 v317
  v318.toNat
def k0_dev13 (d0 : Dev nD) : Nat :=
  let c0_i32_273 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_272 : BitVec 32 := 2#32
  let v355 : BitVec 32 := Scalar.muli v2 c2_i32_272
  let v356 : BitVec 32 := Scalar.addi c0_i32_273 v355
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_274 : BitVec 32 := 1#32
  let v357 : BitVec 32 := Scalar.muli v7 c1_i32_274
  let v358 : BitVec 32 := Scalar.addi v356 v357
  v358.toNat
def k0_dev14 (d0 : Dev nD) : Nat :=
  let c0_i32_301 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_300 : BitVec 32 := 2#32
  let v395 : BitVec 32 := Scalar.muli v2 c2_i32_300
  let v396 : BitVec 32 := Scalar.addi c0_i32_301 v395
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_302 : BitVec 32 := 1#32
  let v397 : BitVec 32 := Scalar.muli v7 c1_i32_302
  let v398 : BitVec 32 := Scalar.addi v396 v397
  v398.toNat
def k0_dev15 (d0 : Dev nD) : Nat :=
  let c0_i32_329 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_328 : BitVec 32 := 2#32
  let v435 : BitVec 32 := Scalar.muli v2 c2_i32_328
  let v436 : BitVec 32 := Scalar.addi c0_i32_329 v435
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_330 : BitVec 32 := 1#32
  let v437 : BitVec 32 := Scalar.muli v7 c1_i32_330
  let v438 : BitVec 32 := Scalar.addi v436 v437
  v438.toNat
def k0_dev16 (d0 : Dev nD) : Nat :=
  let c0_i32_357 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_356 : BitVec 32 := 2#32
  let v475 : BitVec 32 := Scalar.muli v2 c2_i32_356
  let v476 : BitVec 32 := Scalar.addi c0_i32_357 v475
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_358 : BitVec 32 := 1#32
  let v477 : BitVec 32 := Scalar.muli v7 c1_i32_358
  let v478 : BitVec 32 := Scalar.addi v476 v477
  v478.toNat
def k0_dev17 (d0 : Dev nD) : Nat :=
  let c0_i32_385 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_384 : BitVec 32 := 2#32
  let v515 : BitVec 32 := Scalar.muli v2 c2_i32_384
  let v516 : BitVec 32 := Scalar.addi c0_i32_385 v515
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_386 : BitVec 32 := 1#32
  let v517 : BitVec 32 := Scalar.muli v7 c1_i32_386
  let v518 : BitVec 32 := Scalar.addi v516 v517
  v518.toNat
def k0_dev18 (d0 : Dev nD) : Nat :=
  let c0_i32_413 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_412 : BitVec 32 := 2#32
  let v555 : BitVec 32 := Scalar.muli v2 c2_i32_412
  let v556 : BitVec 32 := Scalar.addi c0_i32_413 v555
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_414 : BitVec 32 := 1#32
  let v557 : BitVec 32 := Scalar.muli v7 c1_i32_414
  let v558 : BitVec 32 := Scalar.addi v556 v557
  v558.toNat
def k0_off4 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32_418 : BitVec 32 := 256#32
  let v565 : BitVec 32 := Scalar.muli v5 c256_i32_418
  let c0_i32_419 : BitVec 32 := 0#32
  ![v565.toNat, 0]
-- ==== ReferenceIdeal.lean ====
abbrev S2x1024x512 : Shape := ⟨3, ![2, 1024, 512]⟩
abbrev S512 : Shape := ⟨1, ![512]⟩
abbrev S_ : Shape := ⟨0, ![]⟩
abbrev S1024x512 : Shape := ⟨2, ![1024, 512]⟩
abbrev S1024 : Shape := ⟨1, ![1024]⟩
abbrev S1024x1 : Shape := ⟨2, ![1024, 1]⟩
abbrev S1x512 : Shape := ⟨2, ![1, 512]⟩

abbrev nBuf : Space → Nat
  | .hbm => 21
  | .vmem => 0
  | .smem => 0
  | _ => 0

abbrev bufTy : (tb : Table) → Fin (tcTables nBuf tb) → BufTy
  | .hbm, ⟨0, _⟩ => ⟨S2x1024x512, .f32⟩
  | .hbm, ⟨1, _⟩ => ⟨S512, .f32⟩
  | .hbm, ⟨2, _⟩ => ⟨S_, .f32⟩
  | .hbm, ⟨3, _⟩ => ⟨S1024x512, .f32⟩
  | .hbm, ⟨4, _⟩ => ⟨S1024x512, .f32⟩
  | .hbm, ⟨5, _⟩ => ⟨S_, .f32⟩
  | .hbm, ⟨6, _⟩ => ⟨S1024, .f32⟩
  | .hbm, ⟨7, _⟩ => ⟨S1024x1, .f32⟩
  | .hbm, ⟨8, _⟩ => ⟨S_, .f32⟩
  | .hbm, ⟨9, _⟩ => ⟨S1024x1, .f32⟩
  | .hbm, ⟨10, _⟩ => ⟨S1024x1, .f32⟩
  | .hbm, ⟨11, _⟩ => ⟨S_, .f32⟩
  | .hbm, ⟨12, _⟩ => ⟨S1024x1, .f32⟩
  | .hbm, ⟨13, _⟩ => ⟨S1024x1, .f32⟩
  | .hbm, ⟨14, _⟩ => ⟨S1024x1, .f32⟩
  | .hbm, ⟨15, _⟩ => ⟨S1024x512, .f32⟩
  | .hbm, ⟨16, _⟩ => ⟨S1024x512, .f32⟩
  | .hbm, ⟨17, _⟩ => ⟨S1x512, .f32⟩
  | .hbm, ⟨18, _⟩ => ⟨S1024x512, .f32⟩
  | .hbm, ⟨19, _⟩ => ⟨S1024x512, .f32⟩
  | .hbm, ⟨20, _⟩ => ⟨S1024x512, .bf16⟩
  | _, _ => ⟨S2x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Proof.KernelIdeal.Chunks.lean ====
/-
# The kernel, said chunk by chunk

The kernel works on eight chunks of 32 rows. Its printed text spells every chunk out; here the same program is
said with a chunk index `k`, so that each step can be proved once for all chunks.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

/-! ## Chunks of the buffers -/

/-- Semaphore `k` of an array of eight lies inside it. -/
theorem inb8 (k : Fin 8) : ∀ a, (![k.val] : Fin 1 → Nat) a + S1.size a ≤ S8.size a := by
  revert k; decide

/-- The 32 rows of chunk `k` lie inside the 256 rows of a scratch buffer. -/
theorem inbC (k : Fin 8) : ∀ a, (![32 * k.val, 0] : Fin 2 → Nat) a + S32x512.size a ≤ S256x512.size a := by
  revert k; decide

/-- The rows of chunk `k` in a scratch buffer of 256 rows. -/
abbrev cRect (k : Fin 8) : Rect S256x512 := Rect.unit (s := S256x512) ![32 * k.val, 0] S32x512.size (inbC k)

/-- A chunk starts on a packed row of bf16 words. -/
theorem packedC (k : Fin 8) : (cRect k).PackedRows (EltTy.packing .bf16) := by
  fin_cases k
  exacts [packedbf16_S256x512_S32x512_0_0, packedbf16_S256x512_S32x512_32_0, packedbf16_S256x512_S32x512_64_0,
    packedbf16_S256x512_S32x512_96_0, packedbf16_S256x512_S32x512_128_0, packedbf16_S256x512_S32x512_160_0,
    packedbf16_S256x512_S32x512_192_0, packedbf16_S256x512_S32x512_224_0]

/-- A chunk is made of whole words of bf16. -/
theorem wordsC (k : Fin 8) : (cRect k).WholeWords (EltTy.packing .bf16) := by
  fin_cases k
  exacts [wordsbf16_S256x512_S32x512_0_0, wordsbf16_S256x512_S32x512_32_0, wordsbf16_S256x512_S32x512_64_0,
    wordsbf16_S256x512_S32x512_96_0, wordsbf16_S256x512_S32x512_128_0, wordsbf16_S256x512_S32x512_160_0,
    wordsbf16_S256x512_S32x512_192_0, wordsbf16_S256x512_S32x512_224_0]

/-- Semaphore `k` of an array of eight transfer semaphores. -/
abbrev semAt (a : DmaSems sig S8) (k : Fin 8) : DmaSem sig :=
  ((a.slice (Rect.unit (s := S8) ![k.val] S1.size (inb8 k))).squeeze S_ squeezes_S1_S_).sem
/-- Semaphore 0 of the pair that counts the two loads. -/
abbrev mineSem : DmaSem sig := ((cc0_scratch7.slice (Rect.unit (s := S2) ![0] S1.size inb_S2_S1_0)).squeeze S_ squeezes_S1_S_).sem
/-- Semaphore 1 of the pair that counts the two loads. -/
abbrev gammaSem : DmaSem sig := ((cc0_scratch7.slice (Rect.unit (s := S2) ![1] S1.size inb_S2_S1_1)).squeeze S_ squeezes_S1_S_).sem
/-- The barrier semaphore. -/
abbrev barS : Sem sig := (SemArray.scalar (sig.barrier 0 rfl) : Sems sig S_).sem

/-- The partial sums, the scale vector and the result in main memory. -/
abbrev inM : Memref sig .tc .hbm S1x1024x512 .f32 := Memref.whole main_arg0
abbrev gaM : Memref sig .tc .hbm S512 .f32 := Memref.whole main_arg1
abbrev outM : Memref sig .tc .hbm S512x512 .bf16 := Memref.whole main_v1
/-- The six scratch buffers. -/
abbrev pqM : Memref sig .tc .vmem S256x512 .f32 := Memref.whole cc0_scratch0
abbrev mqM : Memref sig .tc .vmem S256x512 .f32 := Memref.whole cc0_scratch1
abbrev gM : Memref sig .tc .vmem S512 .f32 := Memref.whole cc0_scratch2
abbrev xsM : Memref sig .tc .vmem S256x512 .bf16 := Memref.whole cc0_scratch3
abbrev xrM : Memref sig .tc .vmem S256x512 .bf16 := Memref.whole cc0_scratch4
abbrev ovM : Memref sig .tc .vmem S256x512 .bf16 := Memref.whole cc0_scratch5

/-- Chunk `k` of each chunked scratch buffer. -/
abbrev pqC (k : Fin 8) : Memref sig .tc .vmem S32x512 .f32 := pqM.slice (cRect k) (fun _ => rfl)
abbrev xsC (k : Fin 8) : Memref sig .tc .vmem S32x512 .bf16 := xsM.slice (cRect k) (fun _ => rfl)
abbrev xrC (k : Fin 8) : Memref sig .tc .vmem S32x512 .bf16 := xrM.slice (cRect k) (fun _ => rfl)
abbrev ovC (k : Fin 8) : Memref sig .tc .vmem S32x512 .bf16 := ovM.slice (cRect k) (fun _ => rfl)
/-- Chunk `k` of the quarter of the partial sums that belongs to the other device of the pair. -/
abbrev inC (d : Dev nD) (k : Fin 8) : Memref sig .tc .hbm S32x512 .f32 :=
  (inM.slice (Rect.unit (s := S1x1024x512) (k0_off1 d (BitVec.ofNat 32 (32 * k.val))) S1x32x512.size (k0_off1_inb d k)) (fun _ => rfl)).squeeze S32x512 squeezes_S1x32x512_S32x512
/-- The quarter of the partial sums that this device reduces. -/
abbrev inMine (d : Dev nD) : Memref sig .tc .hbm S256x512 .f32 :=
  (inM.slice (Rect.unit (s := S1x1024x512) (k0_off2 d) S1x256x512.size (k0_off2_inb d)) (fun _ => rfl)).squeeze S256x512 squeezes_S1x256x512_S256x512
/-- Chunk `k` of the half of the result that device `d` computes. -/
abbrev outC (d : Dev nD) (k : Fin 8) : Memref sig .tc .hbm S32x512 .bf16 :=
  outM.slice (Rect.unit (s := S512x512) (k0_off3 d (BitVec.ofNat 32 (32 * k.val))) S32x512.size (k0_off3_inb d k)) (fun _ => rfl)
/-- The half of the result that device `d` computes. -/
abbrev outMine (d : Dev nD) : Memref sig .tc .hbm S256x512 .bf16 :=
  outM.slice (Rect.unit (s := S512x512) (k0_off4 d) S256x512.size (k0_off4_inb d)) (fun _ => rfl)

/-- The device of the same column pair: it holds the other partial sum. -/
abbrev px (d : Dev nD) : Dev nD := ⟨k0_dev1 d, k0_dev1_lt d⟩
/-- The device that computes the other half of the same result. -/
abbrev py (d : Dev nD) : Dev nD := ⟨k0_dev2 d, k0_dev2_lt d⟩

/-! ## What a chunk's arithmetic computes -/

/-- The rounded partial sums of a chunk, as sent to the other device of the pair. -/
def packed (v : Vec F S32x512 .f32) : FVec F S32x512 .bf16 := k0_pay3 v

/-- The normalised rows of a chunk, from the scale, the own partial sums and those received. -/
def normed (g : Vec F S512 .f32) (a : Vec F S32x512 .f32) (b : Vec F S32x512 .bf16) : FVec F S32x512 .bf16 :=
  k0_pay14 (k0_pay10 g) a b

/-! ## The program -/

/-- The kernel's programs. -/
abbrev KProg (α : Type) := Prog (TpuEff nD τ sig (Elt F) Λ₀ .tc) α

/-- `f 0`, `f 1`, … up to the chunk before `n`. -/
def upto (f : Fin 8 → KProg (F := F) PUnit) : (n : ℕ) → n ≤ 8 → KProg (F := F) PUnit
  | 0, _ => pure ⟨⟩
  | n + 1, h => do upto f n (Nat.le_of_succ_le h); f ⟨n, h⟩

/-- The same step for each of the eight chunks in turn. -/
abbrev each (f : Fin 8 → KProg (F := F) PUnit) : KProg (F := F) PUnit := upto f 8 le_rfl

/-- Start loading chunk `k` of the other device's quarter. -/
def loadStart (d : Dev nD) (k : Fin 8) : KProg (F := F) PUnit :=
  Prog.lift (.enqueueDma (inC d k) (.here (pqC k)) (.dma (semAt cc0_scratch6 k)) ((View.wordExact_bits rfl).reshape _ _) (View.wordExact_bits rfl) ⟨Or.inl rfl, trivial⟩)

/-- Start loading the own quarter and the scale. -/
def loadRest (d : Dev nD) : KProg (F := F) PUnit := do
  Prog.lift (.enqueueDma (inMine d) (.here mqM) (.dma mineSem) ((View.wordExact_bits rfl).reshape _ _) (Memref.isWhole_whole _).wordExact ⟨Or.inl rfl, trivial⟩)
  Prog.lift (.enqueueDma gaM (.here gM) (.dma gammaSem) (Memref.isWhole_whole _).wordExact (Memref.isWhole_whole _).wordExact ⟨Or.inl rfl, trivial⟩)

/-- Tell both neighbours that this device is ready, and wait for both. -/
def handshake (d : Dev nD) : KProg (F := F) PUnit := do
  semSignalWord (px d) barS 1#32
  semSignalWord (py d) barS 1#32
  semWaitWord barS 2#32

/-- Chunk `k`: wait for its load, round it, send it to the other device of the pair. -/
def sendX (d : Dev nD) (k : Fin 8) : KProg (F := F) PUnit := do
  Prog.lift (.waitDma2 (semAt cc0_scratch6 k) (inC d k) (pqC k) ((View.wordExact_bits rfl).reshape _ _) (View.wordExact_bits rfl))
  let v : Vec F S32x512 .f32 ← Prog.lift (.load pqM (cRect k).toLoadRect (View.loadsAt_vmem h_S32x512))
  let _ : Vec F S32x512 .bf16 ← Prog.lift (.load xsM (cRect k).toLoadRect (View.loadsAt_vmem h_S32x512))
  Prog.lift (.store xsM (cRect k) (packed v) Finset.univ (View.stores_vmem h_S32x512 ((Memref.isWhole_whole _).storeExact_slice rfl _ (packedC k)) (fun _ => rfl)) (.inl rfl))
  Prog.lift (.enqueueDma (xsC k) (.remote (Dev.tc (px d)) (xrC k) (.dma (semAt cc0_scratch9 k))) (.dma (semAt cc0_scratch10 k)) ((Memref.isWhole_whole _).wordExact_slice rfl _ (wordsC k)) ((Memref.isWhole_whole _).wordExact_slice rfl _ (wordsC k)) ⟨⟨rfl, Or.inl rfl⟩, trivial⟩)

/-- Wait for the own quarter and the scale, and read the scale. -/
def readRest (d : Dev nD) : KProg (F := F) (Vec F S512 .f32) := do
  Prog.lift (.waitDma2 mineSem (inMine d) mqM ((View.wordExact_bits rfl).reshape _ _) (Memref.isWhole_whole _).wordExact)
  Prog.lift (.waitDma2 gammaSem gaM gM (Memref.isWhole_whole _).wordExact (Memref.isWhole_whole _).wordExact)
  Prog.lift (.load gM (Rect.unit (s := S512) ![0] S512.size inb_S512_S512_0).toLoadRect (View.loadsAt_vmem h_S512))

/-- Chunk `k`: wait for the other partial sums, normalise, send the rows to the device of the other half. -/
def sendY (d : Dev nD) (g : Vec F S512 .f32) (k : Fin 8) : KProg (F := F) PUnit := do
  Prog.lift (.waitDma2 (semAt cc0_scratch10 k) (xsC k) (xrC k) ((Memref.isWhole_whole _).wordExact_slice rfl _ (wordsC k)) ((Memref.isWhole_whole _).wordExact_slice rfl _ (wordsC k)))
  let a : Vec F S32x512 .f32 ← Prog.lift (.load mqM (cRect k).toLoadRect (View.loadsAt_vmem h_S32x512))
  let b : Vec F S32x512 .bf16 ← Prog.lift (.load xrM (cRect k).toLoadRect (View.loadsAt_vmem h_S32x512))
  let _ : Vec F S32x512 .bf16 ← Prog.lift (.load ovM (cRect k).toLoadRect (View.loadsAt_vmem h_S32x512))
  Prog.lift (.store ovM (cRect k) (normed g a b) Finset.univ (View.stores_vmem h_S32x512 ((Memref.isWhole_whole _).storeExact_slice rfl _ (packedC k)) (fun _ => rfl)) (.inl rfl))
  Prog.lift (.enqueueDma (ovC k) (.remote (Dev.tc (py d)) (outC d k) (.dma (semAt cc0_scratch11 k))) (.dma (semAt cc0_scratch12 k)) ((Memref.isWhole_whole _).wordExact_slice rfl _ (wordsC k)) ((Memref.isWhole_whole _).wordExact_slice rfl _ (k0_off3_wordsbf16 d k)) ⟨⟨rfl, Or.inl rfl⟩, trivial⟩)

/-- Start writing the own half of the result. -/
def writeStart (d : Dev nD) : KProg (F := F) PUnit :=
  Prog.lift (.enqueueDma ovM (.here (outMine d)) (.dma cc0_scratch8.sem) (Memref.isWhole_whole _).wordExact ((Memref.isWhole_whole _).wordExact_slice rfl _ (k0_off4_wordsbf16 d)) ⟨Or.inl rfl, trivial⟩)

/-- Wait for chunk `k` of the half that the other device computes. -/
def waitY (d : Dev nD) (k : Fin 8) : KProg (F := F) PUnit :=
  Prog.lift (.waitDma2 (semAt cc0_scratch12 k) (ovC k) (outC d k) ((Memref.isWhole_whole _).wordExact_slice rfl _ (wordsC k)) ((Memref.isWhole_whole _).wordExact_slice rfl _ (k0_off3_wordsbf16 d k)))

/-- Wait for the own half to be written. -/
def writeWait (d : Dev nD) : KProg (F := F) PUnit :=
  Prog.lift (.waitDma2 cc0_scratch8.sem ovM (outMine d) (Memref.isWhole_whole _).wordExact ((Memref.isWhole_whole _).wordExact_slice rfl _ (k0_off4_wordsbf16 d)))

/-- Wait for both of chunk `k`'s departures. -/
def drain (d : Dev nD) (k : Fin 8) : KProg (F := F) PUnit := do
  Prog.lift (.waitDma2 (semAt cc0_scratch9 k) (xrC k) (xsC k) ((Memref.isWhole_whole _).wordExact_slice rfl _ (wordsC k)) ((Memref.isWhole_whole _).wordExact_slice rfl _ (wordsC k)))
  Prog.lift (.waitDma2 (semAt cc0_scratch11 k) (outC d k) (ovC k) ((Memref.isWhole_whole _).wordExact_slice rfl _ (k0_off3_wordsbf16 d k)) ((Memref.isWhole_whole _).wordExact_slice rfl _ (wordsC k)))

/-- The kernel, said chunk by chunk. -/
def chunked : KProg (F := F) PUnit := do
  let d : Dev nD ← Prog.lift .deviceId
  each (loadStart d)
  loadRest d
  handshake d
  each (sendX d)
  let g ← readRest d
  each (sendY d g)
  writeStart d
  each (waitY d)
  writeWait d
  each (drain d)

set_option maxRecDepth 65536 in
/-- The kernel's text is the program said chunk by chunk. -/
theorem body_eq_chunked (t : Fin cfg0.N) : bodyAt0 (F := F) t = chunked (F := F) := rfl

end Cert.KernelIdeal.Hand

end
-- ==== Proof.KernelIdeal.Protocol.lean ====
/-
# The protocol between the four devices

Every semaphore of a device is used for one round. A transfer semaphore counts one transfer; the barrier counts one
unit from each neighbour. This file says what each unit hands over, contents included.
-/
module

public import proofs.«01_k».proof.Proof.KernelIdeal.Chunks
public import Idealize.ShloMosaic.Lib.Pipeline.Launch
public import Idealize.ShloMosaic.Lib.Pipeline.Kit
public import Idealize.ShloMosaic.Lib.MemrefSat
public import Idealize.ShloMosaic.Lib.Ring.FamCut
public import Idealize.ShloMosaic.Lib.Tactic

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state of the launch, beside that of the rounds. -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The neighbours -/

/-- The other device of the pair has this one as its other. -/
theorem px_px (c : Dev nD) : px (px c) = c := by revert c; decide
/-- So has the device of the other half. -/
theorem py_py (c : Dev nD) : py (py c) = c := by revert c; decide

/-! ## The semaphores by their use -/

/-- What a transfer semaphore counts: a chunk's load, the load of the own quarter, that of the scale, the write of the
    own half, a chunk's departure to and arrival from the device of the pair, and the same for the other half. -/
inductive Slot where
  | pq (k : Fin 8) | mine | gam | out | xs (k : Fin 8) | xr (k : Fin 8) | ys (k : Fin 8) | yr (k : Fin 8)
deriving DecidableEq

/-- The transfer semaphore with that use. -/
def semOf : Slot → DmaSem sig
  | .pq k => semAt cc0_scratch6 k
  | .mine => mineSem
  | .gam => gammaSem
  | .out => cc0_scratch8.sem
  | .xs k => semAt cc0_scratch9 k
  | .xr k => semAt cc0_scratch10 k
  | .ys k => semAt cc0_scratch11 k
  | .yr k => semAt cc0_scratch12 k

/-- The use of a transfer semaphore, by its number. -/
def slotOf (q : DmaSem sig) : Slot :=
  if q.val < 8 then .pq (Fin.ofNat 8 q.val)
  else if q.val = 8 then .mine
  else if q.val = 9 then .gam
  else if q.val = 10 then .out
  else if q.val < 19 then .xs (Fin.ofNat 8 (q.val - 11))
  else if q.val < 27 then .xr (Fin.ofNat 8 (q.val - 19))
  else if q.val < 35 then .ys (Fin.ofNat 8 (q.val - 27))
  else .yr (Fin.ofNat 8 (q.val - 35))

/-- A place in the protocol is recovered from its semaphore, -/
theorem slotOf_semOf (s : Slot) : slotOf (semOf s) = s := by
  cases s with
  | mine | gam | out => decide
  | pq k | xs k | xr k | ys k | yr k => revert k; decide

/-- and a semaphore from its place. -/
theorem semOf_slotOf (q : DmaSem sig) : semOf (slotOf q) = q := by revert q; decide

/-- The cell of device `c` with that use. -/
abbrev cell (c : Dev nD) (s : Slot) : GSem nD τ sig := ((c : Thread nD τ), .dma (semOf s))
/-- The barrier cell of device `c`. -/
abbrev barCell (c : Dev nD) : GSem nD τ sig := ((c : Thread nD τ), .reg barS)

/-- What the transfer counted there amounts to. -/
def amt : Slot → ℕ
  | .pq _ => (pqC 0).view.dmaCredit
  | .mine => mqM.view.dmaCredit
  | .gam => gM.view.dmaCredit
  | .out => (outMine 0).view.dmaCredit
  | .xs _ => (xrC 0).view.dmaCredit
  | .xr _ => (xrC 0).view.dmaCredit
  | .ys _ => (outC 0 0).view.dmaCredit
  | .yr _ => (outC 0 0).view.dmaCredit

/-- Every transfer moves something. -/
theorem amt_pos (s : Slot) : 0 < amt s := by
  cases s <;> exact View.dmaCredit_pos _ (by decide)

/-! ## The contents -/

section Contents

variable (m : (ℓ : Loc nD τ sig) → Buf (Elt F) ℓ)

/-- Chunk `k` of the partial sums of device `c` that belong to the other device of the pair. -/
def inV (c : Dev nD) (k : Fin 8) : Vec F S32x512 .f32 :=
  (inC c k).view.read (Elt F) (m ((inM).view.loc (c : Thread nD τ)))
/-- The partial sums of device `c` for the quarter it reduces. -/
def mineV (c : Dev nD) : Vec F S256x512 .f32 :=
  (inMine c).view.read (Elt F) (m ((inM).view.loc (c : Thread nD τ)))
/-- Chunk `k` of them. -/
def mineK (c : Dev nD) (k : Fin 8) : Vec F S32x512 .f32 := fun j => mineV m c ((cRect k).emb j)
/-- The scale on device `c`. -/
def gamV (c : Dev nD) : Vec F S512 .f32 := m ((gaM).view.loc (c : Thread nD τ))
/-- What device `c` sends of chunk `k` to the other device of the pair. -/
def xv (c : Dev nD) (k : Fin 8) : Vec F S32x512 .bf16 := packed (inV m c k)
/-- The rows of chunk `k` of the result that device `c` computes. -/
def yv (c : Dev nD) (k : Fin 8) : Vec F S32x512 .bf16 := normed (gamV m c) (mineK m c k) (xv m (px c) k)

end Contents

/-! ## What each unit hands over -/

/-- A memref owned whole at some contents. -/
def someAt (c : Dev nD) {sp : Space} {s : Shape} {e : EltTy} (M : Memref sig .tc sp s e) : sProp 𝕄 :=
  iprop(∃ X, owns (c : Thread nD τ) M fullShare X)

instance someAt_storable (c : Dev nD) {sp : Space} {s : Shape} {e : EltTy} (M : Memref sig .tc sp s e) :
    BI.Storable (upEmb : UEmb _ 𝕄) (someAt c M) := by unfold someAt; infer_instance

/-- A memref owned at contents `X` and share `q`. -/
abbrev at' (c : Dev nD) {sp : Space} {s : Shape} {e : EltTy} (M : Memref sig .tc sp s e) (q : PosShare TreeShare)
    (X : s.Idx → Elt F e) : sProp 𝕄 := owns (c : Thread nD τ) M q X

/-- Two chunks of a scratch buffer share no element. -/
theorem cRect_disjoint (k k' : Fin 8) (h : k ≠ k') : Disjoint (cRect k).set (cRect k').set := by
  refine Finset.disjoint_left.mpr fun y hy => ?_
  have hy0 := (cRect k).mem_set.mp hy 0
  obtain ⟨j, hj, hyj⟩ := hy0
  refine Rect.not_mem_set_of_axis _ y 0 (32 * k'.val) 32 rfl rfl rfl ?_
  have h1 : (y 0).val = 32 * k.val + 1 * j := hyj
  have h2 : j < 32 := hj
  have h3 : k.val ≠ k'.val := fun e => h (Fin.ext e)
  omega

/-- The chunks make up the scratch buffer. -/
theorem cRect_cover : (Finset.univ : Finset (Fin 8)).biUnion (fun k => (cRect k).set) = Finset.univ := by
  refine Finset.eq_univ_of_forall fun y => ?_
  have h0 : (y 0).val < 256 := (y 0).isLt
  have h1 : (y 1).val < 512 := (y 1).isLt
  refine Finset.mem_biUnion.mpr ⟨⟨(y 0).val / 32, by omega⟩, Finset.mem_univ _, (cRect _).mem_set.mpr fun a => ?_⟩
  match a with
  | 0 => exact ⟨(y 0).val % 32, show _ < 32 by omega, show (y 0).val = 32 * ((y 0).val / 32) + 1 * ((y 0).val % 32) by omega⟩
  | 1 => exact ⟨(y 1).val, h1, show (y 1).val = 0 + 1 * (y 1).val by omega⟩

section Payloads

variable (m : (ℓ : Loc nD τ sig) → Buf (Elt F) ℓ)

/-- The rows of the result that device `c` computes. -/
def yAll (c : Dev nD) : Vec F S256x512 .bf16 := Rect.glue cRect cRect_cover (yv m c)

/-- A chunk of the joined rows is that chunk. -/
theorem yAll_emb (c : Dev nD) (k : Fin 8) : (fun j => yAll m c ((cRect k).emb j)) = yv m c k :=
  funext fun j => Rect.glue_emb cRect cRect_cover cRect_disjoint (yv m c) k j

/-- What a transfer's landing, or the departure of its source, hands to device `c`. -/
def pay (c : Dev nD) : Slot → sProp 𝕄
  | .pq k => iprop(at' c (pqC k) fullShare (inV m c k) ∗ at' c (inC c k) fullShare (inV m c k))
  | .mine => iprop(at' c mqM fullShare (mineV m c) ∗ at' c (inMine c) fullShare (mineV m c))
  | .gam => iprop(at' c gM fullShare (gamV m c) ∗ at' c gaM fullShare (gamV m c))
  | .out => iprop(at' c (outMine c) fullShare (yAll m c) ∗ at' c ovM fullShare.left (yAll m c))
  | .xs k => at' c (xsC k) fullShare (xv m c k)
  | .xr k => at' c (xrC k) fullShare (xv m (px c) k)
  | .ys k => at' c (ovC k) fullShare.right (yv m c k)
  | .yr k => at' c (outC (py c) k) fullShare (yv m (py c) k)

instance pay_storable (c : Dev nD) (s : Slot) : BI.Storable (upEmb : UEmb _ 𝕄) (pay m c s) := by
  cases s <;> (unfold pay; infer_instance)

/-- What the unit from the other device of the pair (`false`) or from that of the other half (`true`) hands over: the
    places on that device into which this device will write. -/
def barPay (c : Dev nD) (d : Bool) : sProp 𝕄 :=
  if d then bigSep Finset.univ fun k : Fin 8 => someAt (py c) (outC c k)
  else bigSep Finset.univ fun k : Fin 8 => someAt (px c) (xrC k)

instance barPay_storable (c : Dev nD) (d : Bool) : BI.Storable (upEmb : UEmb _ 𝕄) (barPay (F := F) c d) := by
  unfold barPay; split <;> infer_instance

/-- One round: a barrier has a duty for each neighbour, a transfer semaphore the one duty of its transfer. -/
def sched : Rounds.Schedule (GSem nD τ sig) Bool 𝕄 where
  duties g r := if r = 0 ∧ g.1.2 = .tc then (match g.2 with | .reg _ => Finset.univ | .dma _ => {false}) else ∅
  unitless _ := False
  amount g _ _ := match g.2 with | .reg _ => 1 | .dma q => amt (slotOf q)
  payload g _ d := match g.2 with | .reg _ => barPay g.1.1 d | .dma q => pay m g.1.1 (slotOf q)
  amount_pos g _ _ _ := by
    split
    · exact Nat.one_pos
    · exact amt_pos _

instance sched_payload_storable (g : GSem nD τ sig) (r : ℕ) (d : Bool) :
    BI.Storable (upEmb : UEmb _ 𝕄) ((sched m).payload g r d) := by
  dsimp only [sched]; split <;> infer_instance

section Tables
variable (c : Dev nD) (s : Slot)

/-- The barrier has both duties in its one round, -/
theorem duties_bar : (sched m).duties (barCell c) 0 = Finset.univ := by dsimp only [sched]; exact if_pos ⟨rfl, rfl⟩
/-- a transfer semaphore has one, -/
theorem duties_cell : (sched m).duties (cell c s) 0 = {false} := by dsimp only [sched]; exact if_pos ⟨rfl, rfl⟩
/-- and there is none in any later round. -/
theorem duties_later (g : GSem nD τ sig) : ∀ r, 1 ≤ r → (sched m).duties g r = ∅ :=
  fun r hr => by dsimp only [sched]; exact if_neg fun h => by omega

/-- A signal of the barrier is worth one unit, -/
theorem amount_bar (d : Bool) : (sched m).amount (barCell c) 0 d = 1 := rfl
/-- and a transfer is worth what it moves. -/
theorem amount_cell (d : Bool) : (sched m).amount (cell c s) 0 d = amt s := by
  dsimp only [sched]; rw [slotOf_semOf]

/-- A unit of the barrier hands over the places to write into, -/
theorem payload_bar (d : Bool) : (sched m).payload (barCell c) 0 d = barPay c d := rfl
/-- and a transfer hands over what has landed. -/
theorem payload_cell (d : Bool) : (sched m).payload (cell c s) 0 d = pay m c s := by
  dsimp only [sched]; rw [slotOf_semOf]

/-- The wait for the barrier is for two units, -/
theorem expect_bar : (sched m).expect (barCell c) 0 = 2 := by
  unfold Schedule.expect Schedule.amountOf
  rw [duties_bar, Finset.sum_congr rfl fun d _ => amount_bar m c d]; rfl
/-- and that for a transfer is for all it moves. -/
theorem expect_cell : (sched m).expect (cell c s) 0 = amt s := by
  unfold Schedule.expect Schedule.amountOf
  rw [duties_cell, Finset.sum_singleton, amount_cell]

/-- A transfer's whole round is its payload, -/
theorem rest_cell : bigSep ((sched m).duties (cell c s) 0 \ ∅) (fun d => (sched m).payload (cell c s) 0 d) = pay m c s := by
  rw [Finset.sdiff_empty, duties_cell, bigSep_singleton, payload_cell]
/-- and the barrier's is what both neighbours hand over. -/
theorem rest_bar : bigSep ((sched m).duties (barCell c) 0 \ ∅) (fun d => (sched m).payload (barCell c) 0 d)
    = iprop(barPay c false ∗ barPay c true) := by
  rw [Finset.sdiff_empty, duties_bar, bigSep_univ_eq_bigSepL [false, true] (by decide) (by decide), bigSepL_cons_cons, bigSepL_singleton,
    payload_bar, payload_bar]
  rfl

end Tables
end Payloads

/-! ## What each device owes, and in which order the devices wait -/

/-- The chunks from `n` on that device `c` owes to the other device of the pair. -/
def owedX (c : Dev nD) (n : ℕ) : CellTallies nD τ sig Unit :=
  ∑ k : Fin 8, if n ≤ k.val then tallyAt (cell (px c) (.xr k)) () (amt (.xr k)) else 0
/-- The chunks from `n` on that device `c` owes to the device of the other half. -/
def owedY (c : Dev nD) (n : ℕ) : CellTallies nD τ sig Unit :=
  ∑ k : Fin 8, if n ≤ k.val then tallyAt (cell (py c) (.yr k)) () (amt (.yr k)) else 0

/-- Taking the next chunk out of a sum over the chunks from `n` on. -/
theorem sum_from {M : Type} [AddCommMonoid M] (f : Fin 8 → M) (k : Fin 8) :
    (∑ i : Fin 8, if k.val ≤ i.val then f i else 0) = (∑ i : Fin 8, if k.val + 1 ≤ i.val then f i else 0) + f k := by
  rw [← Finset.sum_erase_add Finset.univ _ (Finset.mem_univ k), if_pos le_rfl]
  congr 1
  rw [← Finset.sum_erase_add Finset.univ (fun i : Fin 8 => if k.val + 1 ≤ i.val then f i else 0) (Finset.mem_univ k),
    if_neg (by omega), add_zero]
  refine Finset.sum_congr rfl fun i hi => ?_
  have hne : i.val ≠ k.val := fun e => (Finset.mem_erase.mp hi).1 (Fin.ext e)
  by_cases h : k.val ≤ i.val
  · rw [if_pos h, if_pos (by omega)]
  · rw [if_neg h, if_neg (by omega)]

/-- Nothing is left after the last chunk. -/
theorem sum_from_end {M : Type} [AddCommMonoid M] (f : Fin 8 → M) :
    (∑ i : Fin 8, if 8 ≤ i.val then f i else 0) = 0 :=
  Finset.sum_eq_zero fun i _ => if_neg (by omega)

/-- Sending a chunk to the other device of the pair takes it off what is owed, -/
theorem owedX_peel (c : Dev nD) (k : Fin 8) :
    owedX c k.val = owedX c (k.val + 1) + tallyAt (cell (px c) (.xr k)) () (amt (.xr k)) := sum_from _ k
/-- and so does sending one to the device of the other half. -/
theorem owedY_peel (c : Dev nD) (k : Fin 8) :
    owedY c k.val = owedY c (k.val + 1) + tallyAt (cell (py c) (.yr k)) () (amt (.yr k)) := sum_from _ k
/-- After the last chunk nothing is owed to the other device of the pair, -/
theorem owedX_end (c : Dev nD) : owedX c 8 = 0 := sum_from_end _
/-- nor to the device of the other half. -/
theorem owedY_end (c : Dev nD) : owedY c 8 = 0 := sum_from_end _

/-- What is owed after the barrier, `n` chunks sent to the other device of the pair. -/
def owed₂ (c : Dev nD) (n : ℕ) : CellTallies nD τ sig Unit := owedY c 0 + owedX c n
/-- What is owed between the two signals, and at the start. -/
def owed₁ (c : Dev nD) : CellTallies nD τ sig Unit := owed₂ c 0 + tallyAt (barCell (py c)) () 1
def owed₀ (c : Dev nD) : CellTallies nD τ sig Unit := owed₁ c + tallyAt (barCell (px c)) () 1

def L (g : GSem nD τ sig) : Finset Unit := if g.1.2 = .tc then {()} else ∅
/-- The order of waiting: what only the device itself pays, the barrier, the pair, the other half. -/
def lv (g : GSem nD τ sig) (_ : Unit) : ℕ :=
  match g.2 with
  | .reg _ => 1
  | .dma q => match slotOf q with
    | .xr _ => 2
    | .yr _ => 3
    | _ => 0

/-- Only the main core of a device has levels. -/
theorem L_of_ne (g : GSem nD τ sig) (h : g.1.2 ≠ .tc) : L g = ∅ := if_neg h
/-- A chunk from the pair has level two, -/
theorem lv_xr (c : Dev nD) (k : Fin 8) (u : Unit) : lv (cell c (.xr k)) u = 2 := by
  dsimp only [lv]; rw [slotOf_semOf]
/-- and a chunk from the other half has level three. -/
theorem lv_yr (c : Dev nD) (k : Fin 8) (u : Unit) : lv (cell c (.yr k)) u = 3 := by
  dsimp only [lv]; rw [slotOf_semOf]

/-- A cell of a sum of tallies is one of the summands' cells. -/
theorem pos_sum {f : Fin 8 → GSem nD τ sig} {N : Fin 8 → ℕ} {n : ℕ} {g : GSem nD τ sig} {u : Unit}
    (h : 0 < (∑ k : Fin 8, if n ≤ k.val then tallyAt (f k) () (N k) else (0 : CellTallies nD τ sig Unit)) g u) :
    ∃ k, g = f k := by
  by_contra hn
  rw [not_exists] at hn
  have h0 : (∑ k : Fin 8, if n ≤ k.val then tallyAt (f k) () (N k) else (0 : CellTallies nD τ sig Unit)) g u = 0 := by
    rw [Finset.sum_apply, Finsupp.finset_sum_apply]
    refine Finset.sum_eq_zero fun k _ => ?_
    split
    · rw [tallyAt_apply, if_neg fun h' => hn k h'.1]
    · rfl
  omega

/-- What is owed to the pair lies on its landing semaphores, -/
theorem owedX_pos {c : Dev nD} {n : ℕ} {g : GSem nD τ sig} {u : Unit} (h : 0 < owedX c n g u) : ∃ k, g = cell (px c) (.xr k) :=
  pos_sum h
/-- what is owed to the other half on those there, -/
theorem owedY_pos {c : Dev nD} {n : ℕ} {g : GSem nD τ sig} {u : Unit} (h : 0 < owedY c n g u) : ∃ k, g = cell (py c) (.yr k) :=
  pos_sum h
/-- and what is owed after the barrier lies on one or the other. -/
theorem owed₂_pos {c : Dev nD} {n : ℕ} {g : GSem nD τ sig} {u : Unit} (h : 0 < owed₂ c n g u) :
    (∃ k, g = cell (px c) (.xr k)) ∨ ∃ k, g = cell (py c) (.yr k) := by
  unfold owed₂ at h
  rw [Pi.add_apply, Finsupp.add_apply] at h
  rcases Nat.pos_of_ne_zero (by omega : owedY c 0 g u + owedX c n g u ≠ 0) |> fun _ => (by omega : 0 < owedX c n g u ∨ 0 < owedY c 0 g u) with h | h
  · exact .inl (owedX_pos h)
  · exact .inr (owedY_pos h)

/-- A device may wait on a cell that lies below all it owes. -/
theorem mayWait_below (c : Dev nD) (sm : SemLoc sig) (O : CellTallies nD τ sig Unit) (n : ℕ)
    (hs : lv ((c : Thread nD τ), sm) () ≤ n)
    (hO : ∀ g u, 0 < O g u → g.1.2 = .tc ∧ n < lv g u) :
    (levAts L lv : sProp 𝕄) ⊢ MayWait (c : Thread nD τ) sm () O :=
  MayOwe.of_cut (L := L) (lev := lv) n
    (fun p hp => by rw [Finset.mem_singleton.mp hp]; rw [show L ((c : Thread nD τ), sm) = {()} from if_pos rfl]; exact Finset.mem_singleton_self _)
    (fun g u hg => by rw [show L g = {()} from if_pos (hO g u hg).1]; exact Finset.mem_singleton_self _)
    (fun p hp => by rw [Finset.mem_singleton.mp hp]; exact hs)
    (fun g u hg => (hO g u hg).2)

/-- Before the sends to the pair are over, a device may wait on its barrier and on what only itself pays. -/
theorem mayWait₂ (c : Dev nD) (sm : SemLoc sig) (n : ℕ) (hs : lv ((c : Thread nD τ), sm) () ≤ 1) :
    (levAts L lv : sProp 𝕄) ⊢ MayWait (c : Thread nD τ) sm () (owed₂ c n) :=
  mayWait_below c sm _ 1 hs fun g u h => by
    rcases owed₂_pos h with ⟨k, rfl⟩ | ⟨k, rfl⟩
    · exact ⟨rfl, by rw [lv_xr]; decide⟩
    · exact ⟨rfl, by rw [lv_yr]; decide⟩

/-- Owing the other half only, a device may wait on anything but the other half. -/
theorem mayWaitY (c : Dev nD) (sm : SemLoc sig) (n : ℕ) (hs : lv ((c : Thread nD τ), sm) () ≤ 2) :
    (levAts L lv : sProp 𝕄) ⊢ MayWait (c : Thread nD τ) sm () (owedY c n) :=
  mayWait_below c sm _ 2 hs fun g u h => by
    obtain ⟨k, rfl⟩ := owedY_pos h
    exact ⟨rfl, by rw [lv_yr]; decide⟩

end Cert.KernelIdeal.Hand

end
-- ==== Proof.KernelIdeal.Steps.lean ====
/-
# The kernel's steps, at the protocol's cells

One rule for each kind of statement: reading and writing a chunk, a wait, a transfer within the device and one to a
neighbour; then the rule for a step repeated over the chunks.
-/
module

public import proofs.«01_k».proof.Proof.KernelIdeal.Protocol

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- What is enough for device `c` to run `p` and end in `Q`. -/
abbrev runs (c : Dev nD) {α : Type} (p : KProg (F := F) α) (Q : α → sProp 𝕄) : sProp 𝕄 :=
  wp frame (wpE (defs₀ (F := F)) 𝒱₀ (c : Thread nD τ) none) Set.univ p Q

/-! ## Reading and writing a chunk -/

section Access

variable (c : Dev nD) {sp : CoreSpace} {s : Shape} {e : EltTy} {α : Type}

/-- A load of a rectangle reads what its slice holds. -/
theorem run_load {Q : α → sProp 𝕄} {M : Memref sig .tc sp s e} {r : Rect s} {hl : M.view.LoadsAt r.toLoadRect} (hr : ∀ a, r.stride a = 1)
    {q : PosShare TreeShare} {X : r.shape.Idx → Elt F e} {k : (r.toLoadRect.shape.Idx → Elt F e) → KProg (F := F) α} :
    (at' c (M.slice r hr) q X)
      ⊢ iprop((at' c (M.slice r hr) q X -∗ runs c (k X) Q) -∗ runs c (.op (.load M r.toLoadRect hl) k) Q) := by
  iintro H Hk
  ihave H' := (show at' c (M.slice r hr) q X ⊢ iprop(∃ f, ⌜(M.slice r hr).view.read (Elt F) f = X⌝
    ∗ ((M.slice r hr).view.loc (c : Thread nD τ) ↦[(M.slice r hr).view.set]{q} f)) from .rfl) $$ H
  icases H' with ⟨%f, %hf, H⟩
  subst hf
  iapply (wp_load_rect 𝒱₀ (c : Thread nD τ) none Set.univ (m := M) (r := r) (S := (M.access r).set) (q := q) (f := f) subset_rfl) $$ H
  iintro H
  iapply Hk
  iapply (owns_intro (c : Thread nD τ) (M.slice r hr) q f)
  iexact H

/-- A store to a rectangle leaves its slice holding what was stored. -/
theorem run_store {Q : α → sProp 𝕄} {M : Memref sig .tc sp s e} {r : Rect s} {w : r.shape.Idx → Elt F e} {hx : (M.access r).Stores Finset.univ}
    {hm : Finset.univ = Finset.univ ∨ ∀ a, r.stride a = 1} (hr : ∀ a, r.stride a = 1) {X : r.shape.Idx → Elt F e}
    {k : PUnit → KProg (F := F) α} :
    (at' c (M.slice r hr) fullShare X)
      ⊢ iprop((at' c (M.slice r hr) fullShare w -∗ runs c (k ⟨⟩) Q) -∗ runs c (.op (.store M r w Finset.univ hx hm) k) Q) := by
  iintro H Hk
  ihave H' := (show at' c (M.slice r hr) fullShare X ⊢ iprop(∃ f, ⌜(M.slice r hr).view.read (Elt F) f = X⌝
    ∗ ((M.slice r hr).view.loc (c : Thread nD τ) ↦[(M.slice r hr).view.set]{fullShare} f)) from .rfl) $$ H
  icases H' with ⟨%f, -, H⟩
  iapply (wp_store 𝒱₀ (c : Thread nD τ) none Set.univ (m := M) (r := r) (w := w) (Mk := Finset.univ) (hm := hm)
    (S := (M.access r).set) (f := f) subset_rfl) $$ H
  iintro H
  iapply Hk
  iapply (show ((M.access r).loc (c : Thread nD τ) ↦[(M.access r).set]{fullShare} ((M.access r).write (Elt F) f w Finset.univ) : sProp 𝕄)
      ⊢ at' c (M.slice r hr) fullShare w from by
    have h := owns_intro (Ix := Unit) (Name := ℕ) (U := UU) (Lvl := ℕ) (c : Thread nD τ) (M.slice r hr) fullShare ((M.access r).write (Elt F) f w Finset.univ)
    rw [show (M.slice r hr).view.read (Elt F) ((M.access r).write (Elt F) f w Finset.univ) = w from
      View.read_write_univ (v := M.access r) f w] at h
    exact h)
  iexact H

end Access

/-! ## Waits and transfers -/

section Cells

variable (m : (ℓ : Loc nD τ sig) → Buf (Elt F) ℓ) (K : Dev nD × SemLoc sig → ℕ)

/-- What everybody knows: every cell follows the schedule, and its round has begun. -/
def records : sProp 𝕄 :=
  iprop((bigSep Finset.univ fun x : Dev nD × SemLoc sig => cellInv ER (sched m) (K x) ((x.1 : Thread nD τ), x.2))
    ∗ bigSep Finset.univ fun x : Dev nD × SemLoc sig => reached ER ((x.1 : Thread nD τ), x.2) 0)

instance records_persistent : BI.Persistent (records m K) := by unfold records; infer_instance

/-- The records hold the invariant of every cell, -/
theorem records_inv (c : Dev nD) (sm : SemLoc sig) :
    records m K ⊢ cellInv ER (sched m) (K (c, sm)) ((c : Thread nD τ), sm) := by
  unfold records
  iintro ⟨H, -⟩
  iapply (show (bigSep Finset.univ fun x : Dev nD × SemLoc sig => (cellInv ER (sched m) (K x) ((x.1 : Thread nD τ), x.2) : sProp 𝕄))
    ⊢ cellInv ER (sched m) (K (c, sm)) ((c : Thread nD τ), sm) from bigSep_elim (Finset.mem_univ (c, sm)))
  iexact H

/-- and that its first round has been reached. -/
theorem records_reached (c : Dev nD) (sm : SemLoc sig) :
    records m K ⊢ reached ER ((c : Thread nD τ), sm) 0 := by
  unfold records
  iintro ⟨-, H⟩
  iapply (show (bigSep Finset.univ fun x : Dev nD × SemLoc sig => (reached ER ((x.1 : Thread nD τ), x.2) 0 : sProp 𝕄))
    ⊢ reached ER ((c : Thread nD τ), sm) 0 from bigSep_elim (Finset.mem_univ (c, sm)))
  iexact H

/-- What a device owes, whatever it has waited for. -/
def owing (c : Dev nD) (O : CellTallies nD τ sig Unit) : sProp 𝕄 := iprop(∃ W, owes (c : Thread nD τ) O W)

/-- The tokens for a transfer counted at `s` on device `c`: its credit, -/
abbrev credOf (c : Dev nD) (s : Slot) : sProp 𝕄 := cred (tallyAt (cell c s) () (amt s))
/-- and the right to make it. -/
abbrev tokOf (c : Dev nD) (s : Slot) : sProp 𝕄 := dutyTok ER (cell c s) 0 false
/-- Before and after the wait at `s`. -/
abbrev posOf (c : Dev nD) (s : Slot) (r : ℕ) : sProp 𝕄 := atPos ER (cell c s) r ∅ 0

variable (c : Dev nD) {α : Type}

/-- A wait for a transfer hands over its payload. -/
theorem run_wait {Q : α → sProp 𝕄} (s : Slot) {sp sp' : Space} {s₁ s₂ : Shape} {e₁ e₂ : EltTy} {src : Memref sig .tc sp s₁ e₁} {dst : Memref sig .tc sp' s₂ e₂}
    {hs : src.view.WordExact} {hd : dst.view.WordExact} (hN : dst.view.dmaCredit = amt s)
    (O : CellTallies nD τ sig Unit) (hO : (levAts L lv : sProp 𝕄) ⊢ MayWait (c : Thread nD τ) (.dma (semOf s)) () O)
    {k : PUnit → KProg (F := F) α} :
    iprop(records m K ∗ levAts L lv ∗ credOf c s ∗ posOf c s 0 ∗ owing c O)
      ⊢ iprop(((pay m c s ∗ posOf c s 1 ∗ owing c O) -∗ runs c (k ⟨⟩) Q) -∗ runs c (.op (.waitDma2 (semOf s) src dst hs hd) k) Q) := by
  unfold owing
  iintro ⟨#HR, #HL, Hc, Hp, ⟨%W, HO⟩⟩ Hk
  iapply (Rounds.wp_wait_rest_token 𝒱₀ ER (sched m) (c : Thread nD τ) none (κ := K (c, .dma (semOf s)))
      (wpE_waitDma2_eq 𝒱₀ (c : Thread nD τ) none Set.univ) (Set.mem_univ _) () (O := O) (W := W) (R := 0) (m := 0) (T := ∅)
      (by rw [Nat.zero_add, hN]; exact (expect_cell m c s).symm)) $$ [Hc Hp HO]
  · isplitr; · iapply (records_inv m K c (.dma (semOf s))); iexact HR
    isplitl [Hc]; · rw [hN]; iexact Hc
    isplitl [HO]; · iexact HO
    isplitr; · iapply hO; iexact HL
    iexact Hp
  iintro ⟨HO, Hp, -, Hpay⟩
  iapply Hk
  isplitl [Hpay]
  · ihave H := (Entails.of_eq (rest_cell m c s)) $$ Hpay
    iexact H
  isplitl [Hp]; · iexact Hp
  iexists _; iexact HO

/-- A transfer within the device: both ends become its payload. -/
theorem run_copy {Q : α → sProp 𝕄} (s : Slot) {sp sp' : Space} {s₁ : Shape} {e₁ : EltTy} {src : Memref sig .tc sp s₁ e₁} {dst : Memref sig .tc sp' s₁ e₁}
    {hs : src.view.WordExact} {hd : dst.view.WordExact} {ht : DmaTarget.Typed (nD := nD) sp (.dma (semOf s)) (.here (p := (Proc.tc : Proc τ)) dst)}
    (hN : dst.view.dmaCredit = amt s) {q : PosShare TreeShare} {X : s₁.Idx → Elt F e₁}
    (hpay : iprop(at' c dst fullShare X ∗ at' c src q X) ⊢ pay m c s)
    {k : PUnit → KProg (F := F) α} :
    iprop(records m K ∗ tokOf c s ∗ at' c src q X ∗ someAt c dst)
      ⊢ iprop((credOf c s -∗ runs c (k ⟨⟩) Q) -∗ runs c (.op (.enqueueDma src (.here dst) (.dma (semOf s)) hs hd ht) k) Q) := by
  iintro ⟨#HR, Ht, Hs, Hd⟩ Hk
  ihave Hs' := (show at' c src q X ⊢ iprop(∃ f, ⌜src.view.read (Elt F) f = X⌝
    ∗ (src.view.loc (c : Thread nD τ) ↦[src.view.set]{q} f)) from .rfl) $$ Hs
  icases Hs' with ⟨%fs, %hfs, Hs⟩
  ihave Hd' := (show someAt c dst ⊢ iprop(∃ Y f, ⌜dst.view.read (Elt F) f = Y⌝
    ∗ (dst.view.loc (c : Thread nD τ) ↦[dst.view.set]{fullShare} f)) from .rfl) $$ Hd
  icases Hd' with ⟨%Y, %fd, -, Hd⟩
  iapply (Rounds.wp_copy_pointsTo 𝒱₀ ER (sched m) (c : Thread nD τ) none (src := src) (dst := dst) (κ := K (c, .dma (semOf s))) (r := 0) (d := false)
    (q := q) (fs := fs) (fd := fd)
    (by rw [duties_cell]; exact Finset.mem_singleton_self _) () (amt s) (show dst.view.amount (.dma (semOf s)) = amt s from hN) (amount_cell m c s false)
    (by
      rw [payload_cell]
      refine BIBase.Entails.trans ?_ hpay
      have h := owns_intro (Ix := Unit) (Name := ℕ) (U := UU) (Lvl := ℕ) (c : Thread nD τ) dst fullShare
        (dst.view.write (Elt F) fd (src.view.read (Elt F) fs) Finset.univ)
      have h' := owns_intro (Ix := Unit) (Name := ℕ) (U := UU) (Lvl := ℕ) (c : Thread nD τ) src q fs
      rw [View.read_write_univ, hfs] at h
      rw [hfs] at h'
      rw [hfs]
      exact BI.sep_mono h h')) $$ [Ht Hs Hd]
  · isplitr; · iapply (records_inv m K c (.dma (semOf s))); iexact HR
    isplitl [Hs]; · iexact Hs
    isplitl [Hd]; · iexact Hd
    isplitl [Ht]; · iexact Ht
    iapply (records_reached m K c (.dma (semOf s))); iexact HR
  iintro Hc
  iapply Hk
  iexact Hc

/-- A transfer to device `p`: the source is the payload of its departure, the destination that of its arrival. -/
theorem run_send {Q : α → sProp 𝕄} (p : Dev nD) (s s' : Slot) {sp sp' : Space} {s₁ : Shape} {e₁ : EltTy} {src : Memref sig .tc sp s₁ e₁} {dst : Memref sig .tc sp' s₁ e₁}
    {hsc : (show Memref sig (p : Thread nD τ).2.kind sp' s₁ e₁ from dst).view.ref.isScScratch = false}
    {hs : src.view.WordExact} {hd : dst.view.WordExact}
    {ht : DmaTarget.Typed sp (.dma (semOf s')) (.remote (p : Thread nD τ) dst (.dma (semOf s)) hsc)}
    (hN : dst.view.dmaCredit = amt s) (hN' : amt s' = amt s) {q : PosShare TreeShare} {X : s₁.Idx → Elt F e₁}
    (hpay : (at' c src q X) ⊢ pay m c s) (hpay' : (at' p dst fullShare X) ⊢ pay m p s')
    {O₀ : CellTallies nD τ sig Unit} (O : CellTallies nD τ sig Unit) (hO : O₀ = O + tallyAt (cell p s') () (amt s'))
    {k : PUnit → KProg (F := F) α} :
    iprop(records m K ∗ tokOf c s ∗ tokOf p s' ∗ at' c src q X ∗ someAt p dst ∗ owing c O₀)
      ⊢ iprop(((credOf c s ∗ owing c O) -∗ runs c (k ⟨⟩) Q)
          -∗ runs c (.op (.enqueueDma src (.remote (p : Thread nD τ) dst (.dma (semOf s)) hsc) (.dma (semOf s')) hs hd ht) k) Q) := by
  unfold owing
  iintro ⟨#HR, Ht, Ht', Hs, Hd, ⟨%W, HO⟩⟩ Hk
  ihave Hs' := (show at' c src q X ⊢ iprop(∃ f, ⌜src.view.read (Elt F) f = X⌝
    ∗ (src.view.loc (c : Thread nD τ) ↦[src.view.set]{q} f)) from .rfl) $$ Hs
  icases Hs' with ⟨%fs, %hfs, Hs⟩
  ihave Hd' := (show someAt p dst ⊢ iprop(∃ Y f, ⌜dst.view.read (Elt F) f = Y⌝
    ∗ (dst.view.loc (p : Thread nD τ) ↦[dst.view.set]{fullShare} f)) from .rfl) $$ Hd
  icases Hd' with ⟨%Y, %fd, -, Hd⟩
  iapply (Rounds.wp_send_pointsTo 𝒱₀ ER (sched m) (c : Thread nD τ) none (c' := (p : Thread nD τ)) (src := src) (dst := dst)
    (κ₁ := K (c, .dma (semOf s))) (κ₂ := K (p, .dma (semOf s'))) (r₁ := 0) (r₂ := 0) (d₁ := false) (d₂ := false)
    (q := q) (fs := fs) (fd := fd)
    (by rw [duties_cell]; exact Finset.mem_singleton_self _) (by rw [duties_cell]; exact Finset.mem_singleton_self _)
    () () (amt s) (show dst.view.amount (.dma (semOf s')) = amt s from hN) (amount_cell m c s false) ((amount_cell m p s' false).trans hN') (O₀ := O₀) O (by rw [hO, hN']) (W := W)
    (by
      rw [payload_cell]
      refine BIBase.Entails.trans ?_ hpay
      have h' := owns_intro (Ix := Unit) (Name := ℕ) (U := UU) (Lvl := ℕ) (c : Thread nD τ) src q fs
      rw [hfs] at h'
      exact h')
    (by
      rw [payload_cell]
      refine BIBase.Entails.trans ?_ hpay'
      have h := owns_intro (Ix := Unit) (Name := ℕ) (U := UU) (Lvl := ℕ) (p : Thread nD τ) dst fullShare
        (dst.view.write (Elt F) fd (src.view.read (Elt F) fs) Finset.univ)
      rw [View.read_write_univ, hfs] at h
      rw [hfs]
      exact h)) $$ [Ht Ht' Hs Hd HO]
  · isplitr; · iapply (records_inv m K c (.dma (semOf s))); iexact HR
    isplitr; · iapply (records_inv m K p (.dma (semOf s'))); iexact HR
    isplitl [Hs]; · iexact Hs
    isplitl [Hd]; · iexact Hd
    isplitl [HO]; · iexact HO
    isplitl [Ht]; · iexact Ht
    isplitr; · iapply (records_reached m K c (.dma (semOf s))); iexact HR
    isplitl [Ht']; · iexact Ht'
    iapply (records_reached m K p (.dma (semOf s'))); iexact HR
  iintro ⟨Hc, HO⟩
  iapply Hk
  isplitl [Hc]; · iexact Hc
  iexists _; iexact HO

/-- A unit to a neighbour's barrier, with what it hands over. -/
theorem run_signal {Q : α → sProp 𝕄} (p : Dev nD) (d : Bool) {O₀ : CellTallies nD τ sig Unit} (O : CellTallies nD τ sig Unit)
    (hO : O₀ = O + tallyAt (barCell p) () 1) {k : PUnit → KProg (F := F) α} :
    iprop(records m K ∗ dutyTok ER (barCell p) 0 d ∗ barPay p d ∗ owing c O₀)
      ⊢ iprop((owing c O -∗ runs c (k ⟨⟩) Q) -∗ runs c (.op (.semSignal (p : Thread nD τ) barS (1#32 : BitVec 32).toInt.toNat) k) Q) := by
  unfold owing
  iintro ⟨#HR, Ht, Hp, ⟨%W, HO⟩⟩ Hk
  iapply (Rounds.wp_signal 𝒱₀ ER (sched m) (c : Thread nD τ) none (dst := (p : Thread nD τ)) (κ := K (p, .reg barS))
      (d := d) (by rw [duties_bar]; exact Finset.mem_univ _) ((amount_bar m p d).trans (by decide)) () O hO (W := W))
    $$ [Ht Hp HO]
  · isplitr; · iapply (records_inv m K p (.reg barS)); iexact HR
    isplitl [HO]; · iexact HO
    isplitl [Ht]; · iexact Ht
    isplitl [Hp]; · rw [payload_bar]; iexact Hp
    iapply (records_reached m K p (.reg barS)); iexact HR
  iintro HO
  iapply Hk
  iexists W; iexact HO

/-- The wait for both neighbours. -/
theorem run_barrier {Q : α → sProp 𝕄} (O : CellTallies nD τ sig Unit) (hO : (levAts L lv : sProp 𝕄) ⊢ MayWait (c : Thread nD τ) (.reg barS) () O)
    {k : PUnit → KProg (F := F) α} :
    iprop(records m K ∗ levAts L lv ∗ cred (tallyAt (barCell c) () 2) ∗ atPos ER (barCell c) 0 ∅ 0 ∗ owing c O)
      ⊢ iprop((((barPay c false ∗ barPay c true) ∗ atPos ER (barCell c) 1 ∅ 0 ∗ owing c O) -∗ runs c (k ⟨⟩) Q)
          -∗ runs c (.op (.semWait barS (2#32 : BitVec 32).toInt.toNat) k) Q) := by
  unfold owing
  iintro ⟨#HR, #HL, Hc, Hp, ⟨%W, HO⟩⟩ Hk
  iapply (Rounds.wp_wait_rest_token 𝒱₀ ER (sched m) (c : Thread nD τ) none (κ := K (c, .reg barS))
      (wpE_semWait_eq 𝒱₀ (c : Thread nD τ) none Set.univ) (Set.mem_univ _) () (O := O) (W := W) (R := 0) (m := 0) (T := ∅)
      (by rw [expect_bar]; decide)) $$ [Hc Hp HO]
  · isplitr; · iapply (records_inv m K c (.reg barS)); iexact HR
    isplitl [Hc]; · iexact Hc
    isplitl [HO]; · iexact HO
    isplitr; · iapply hO; iexact HL
    iexact Hp
  iintro ⟨HO, Hp, -, Hpay⟩
  iapply Hk
  isplitl [Hpay]
  · ihave H := (Entails.of_eq (rest_bar m c)) $$ Hpay
    iexact H
  isplitl [Hp]; · iexact Hp
  iexists _; iexact HO

end Cells

/-! ## One step after another -/

section Sequence

variable (c : Dev nD)

/-- The end of a step. -/
theorem run_done {α : Type} (a : α) (Q : α → sProp 𝕄) : Q a ⊢ runs c (.ret a) Q := by
  unfold runs; rw [wp_ret]; exact fupd_intro

/-- A step, then the rest, with what the step leaves alone. -/
theorem run_seq {α β : Type} {p : KProg (F := F) α} {k : α → KProg (F := F) β} {P R : sProp 𝕄} {Q' : α → sProp 𝕄} {Q : β → sProp 𝕄}
    (hp : P ⊢ runs c p Q') (hk : ∀ a, iprop(Q' a ∗ R) ⊢ runs c (k a) Q) : iprop(P ∗ R) ⊢ runs c (p >>= k) Q := by
  unfold runs at *
  rw [wp_bind]
  exact ((sep_mono_left hp).trans (wp_frame_r _ _ _)).trans (wp_mono _ _ _ fun a => hk a)

/-- The step for chunk `k` turns `A k` into `B k` and what is shared from `S k` into `S (k + 1)`: all eight steps. -/
theorem run_each (f : Fin 8 → KProg (F := F) PUnit) (R : sProp 𝕄) [BI.Persistent R] (A B : Fin 8 → sProp 𝕄) (S : ℕ → sProp 𝕄)
    (h : ∀ k, iprop(R ∗ A k ∗ S k.val) ⊢ runs c (f k) fun _ => iprop(B k ∗ S (k.val + 1))) :
    iprop(R ∗ (bigSep Finset.univ A ∗ S 0)) ⊢ runs c (each f) fun _ => iprop(bigSep Finset.univ B ∗ S 8) := by
  have main : ∀ (n : ℕ) (hn : n ≤ 8),
      iprop(R ∗ ((bigSep (Finset.univ.filter fun k : Fin 8 => k.val < n) A) ∗ S 0))
        ⊢ runs c (upto f n hn) fun _ => iprop((bigSep (Finset.univ.filter fun k : Fin 8 => k.val < n) B) ∗ S n) := by
    intro n
    induction n with
    | zero =>
      intro hn
      refine BIBase.Entails.trans ?_ (run_done c PUnit.unit _)
      rw [show (Finset.univ.filter fun k : Fin 8 => k.val < 0) = ∅ from Finset.filter_eq_empty_iff.mpr fun k _ => Nat.not_lt_zero _]
      rw [bigSep_empty, bigSep_empty]
      iintro ⟨-, H⟩
      iexact H
    | succ n ih =>
      intro hn
      have hset : (Finset.univ.filter fun k : Fin 8 => k.val < n + 1)
          = insert (⟨n, hn⟩ : Fin 8) (Finset.univ.filter fun k : Fin 8 => k.val < n) := by
        ext k
        rw [Finset.mem_insert, Finset.mem_filter, Finset.mem_filter, Fin.ext_iff]
        simp only [Finset.mem_univ, _root_.true_and]
        omega
      have hnot : (⟨n, hn⟩ : Fin 8) ∉ (Finset.univ.filter fun k : Fin 8 => k.val < n) := fun h' =>
        Nat.lt_irrefl _ (Finset.mem_filter.mp h').2
      rw [hset, bigSep_insert hnot, bigSep_insert hnot]
      refine BIBase.Entails.trans ?_ (run_seq c (R := iprop(R ∗ A ⟨n, hn⟩)) (ih (Nat.le_of_succ_le hn)) fun _ => ?_)
      · refine (show iprop(R ∗ (A ⟨n, hn⟩ ∗ bigSep _ A) ∗ S 0) ⊢ _ from ?_)
        iintro ⟨#HR, ⟨HA, HAs⟩, HS⟩
        isplitl [HAs HS]
        · isplitr; · iexact HR
          isplitl [HAs] <;> iassumption
        isplitr; · iexact HR
        iexact HA
      · refine BIBase.Entails.trans ?_ (show iprop(runs c (f ⟨n, hn⟩) (fun _ => iprop(B ⟨n, hn⟩ ∗ S (n + 1)))
            ∗ bigSep (Finset.univ.filter fun k : Fin 8 => k.val < n) B) ⊢ _ from
          (wp_frame_r _ _ _).trans (wp_mono _ _ _ fun _ => show iprop((B ⟨n, hn⟩ ∗ S (n + 1)) ∗ bigSep _ B) ⊢ iprop((B ⟨n, hn⟩ ∗ bigSep _ B) ∗ S (n + 1)) from by
            iintro ⟨⟨H1, H2⟩, H3⟩
            isplitl [H1 H3]
            · isplitl [H1] <;> iassumption
            iexact H2))
        iintro ⟨⟨HB, HS⟩, HR, HA⟩
        isplitr [HB]
        · iapply (h ⟨n, hn⟩)
          isplitl [HR]; · iexact HR
          isplitl [HA] <;> iassumption
        iexact HB
  have h8 := main 8 le_rfl
  rwa [show (Finset.univ.filter fun k : Fin 8 => k.val < 8) = Finset.univ from Finset.filter_true_of_mem fun k _ => k.isLt] at h8

end Sequence

end Cert.KernelIdeal.Hand

end
-- ==== Proof.KernelIdeal.Stages.lean ====
/-
# The kernel's stages

For a device `c`, what each stage of the kernel takes and what it leaves, chunk by chunk.
-/
module

public import proofs.«01_k».proof.Proof.KernelIdeal.Steps

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × SemLoc sig → ℕ) (c : Dev nD)

/-- What everybody knows, with the order of waiting. -/
abbrev known : sProp 𝕄 := iprop(records m K ∗ levAts L lv)

/-! ## What the chunks of each stage take and leave -/

/-- A chunk before its load is started. -/
def loadA (k : Fin 8) : sProp 𝕄 :=
  iprop(tokOf c (.pq k) ∗ at' c (inC c k) fullShare (inV m c k) ∗ someAt c (pqC k))
/-- A chunk, its load started, before it is sent to the other device of the pair; -/
def sendXA (k : Fin 8) : sProp 𝕄 :=
  iprop((posOf c (.pq k) 0 ∗ tokOf c (.xs k) ∗ tokOf (px c) (.xr k) ∗ someAt c (xsC k)) ∗ credOf c (.pq k) ∗ someAt (px c) (xrC k))
/-- and after. -/
def sendXB (k : Fin 8) : sProp 𝕄 :=
  iprop((posOf c (.pq k) 1 ∗ at' c (pqC k) fullShare (inV m c k) ∗ at' c (inC c k) fullShare (inV m c k)) ∗ credOf c (.xs k))
/-- A chunk before it is normalised and sent to the device of the other half; -/
def sendYA (k : Fin 8) : sProp 𝕄 :=
  iprop((posOf c (.xr k) 0 ∗ credOf c (.xr k) ∗ tokOf c (.ys k) ∗ tokOf (py c) (.yr k) ∗ someAt c (ovC k))
    ∗ at' c (mqM.slice (cRect k) (fun _ => rfl)) fullShare (mineK m c k) ∗ someAt (py c) (outC c k))
/-- and after. -/
def sendYB (k : Fin 8) : sProp 𝕄 :=
  iprop((posOf c (.xr k) 1 ∗ at' c (xrC k) fullShare (xv m (px c) k)) ∗ at' c (mqM.slice (cRect k) (fun _ => rfl)) fullShare (mineK m c k)
    ∗ at' c (ovC k) fullShare.left (yv m c k) ∗ credOf c (.ys k))
/-- A chunk of the other half before its arrival; -/
def waitYA (k : Fin 8) : sProp 𝕄 := iprop(posOf c (.yr k) 0 ∗ credOf c (.yr k))
/-- and after. -/
def waitYB (k : Fin 8) : sProp 𝕄 := iprop(posOf c (.yr k) 1 ∗ at' c (outC (py c) k) fullShare (yv m (py c) k))
/-- A chunk's departures before they are waited for; -/
def drainA (k : Fin 8) : sProp 𝕄 :=
  iprop((posOf c (.xs k) 0 ∗ posOf c (.ys k) 0) ∗ credOf c (.xs k) ∗ credOf c (.ys k))
/-- and after. -/
def drainB (k : Fin 8) : sProp 𝕄 :=
  iprop((posOf c (.xs k) 1 ∗ posOf c (.ys k) 1) ∗ at' c (xsC k) fullShare (xv m c k) ∗ at' c (ovC k) fullShare.right (yv m c k))

/-! ## The levels of the waits -/

/-- The level of a transfer semaphore, compared with a bound. -/
theorem lv_self (s : Slot) (n : ℕ) (h : (match s with | .xr _ => 2 | .yr _ => 3 | _ => 0) ≤ n) :
    lv ((c : Thread nD τ), .dma (semOf s)) () ≤ n := by
  dsimp only [lv]; rw [slotOf_semOf]; exact h

/-- A device that owes nothing may wait. -/
theorem mayWait_none (sm : SemLoc sig) : (levAts L lv : sProp 𝕄) ⊢ MayWait (c : Thread nD τ) sm () 0 := by
  rw [MayWait_zero]; iintro -; iempintro

/-! ## The stages -/

/-- Starting a chunk's load. -/
theorem stage_loadStart (k : Fin 8) :
    iprop(known m K ∗ loadA m c k ∗ emp) ⊢ runs c (loadStart c k) fun _ => iprop(credOf c (.pq k) ∗ emp) := by
  unfold loadStart loadA known
  simp only [Prog.lift]
  iintro ⟨⟨#HR, #HL⟩, ⟨Ht, Hs, Hd⟩, -⟩
  iapply (run_copy m K c (.pq k) (src := inC c k) (dst := pqC k) rfl (X := inV m c k) .rfl) $$ [Ht Hs Hd]
  · isplitr; · iexact HR
    isplitl [Ht]; · iexact Ht
    isplitl [Hs] <;> iassumption
  iintro Hc
  iapply (run_done c PUnit.unit)
  isplitl [Hc]; · iexact Hc
  iempintro

/-- Starting the loads of the own quarter and of the scale. -/
theorem stage_loadRest :
    iprop(known m K ∗ (tokOf c .mine ∗ at' c (inMine c) fullShare (mineV m c) ∗ someAt c mqM)
        ∗ (tokOf c .gam ∗ at' c gaM fullShare (gamV m c) ∗ someAt c gM))
      ⊢ runs c (loadRest c) fun _ => iprop(credOf c .mine ∗ credOf c .gam) := by
  unfold loadRest known
  simp only [Prog.lift, Prog.bind_op, Prog.bind_ret]
  iintro ⟨⟨#HR, #HL⟩, ⟨Ht, Hs, Hd⟩, ⟨Ht', Hs', Hd'⟩⟩
  iapply (run_copy m K c .mine (src := inMine c) (dst := mqM) rfl (X := mineV m c) .rfl) $$ [Ht Hs Hd]
  · isplitr; · iexact HR
    isplitl [Ht]; · iexact Ht
    isplitl [Hs] <;> iassumption
  iintro Hc
  iapply (run_copy m K c .gam (src := gaM) (dst := gM) rfl (X := gamV m c) .rfl) $$ [Ht' Hs' Hd']
  · isplitr; · iexact HR
    isplitl [Ht']; · iexact Ht'
    isplitl [Hs'] <;> iassumption
  iintro Hc'
  iapply (run_done c PUnit.unit)
  isplitl [Hc] <;> iassumption

/-- Offering both neighbours their places here, and receiving theirs. -/
theorem stage_handshake :
    iprop(known m K ∗ (dutyTok ER (barCell (px c)) 0 false ∗ bigSep Finset.univ fun k : Fin 8 => someAt c (xrC k))
        ∗ (dutyTok ER (barCell (py c)) 0 true ∗ bigSep Finset.univ fun k : Fin 8 => someAt c (outC (py c) k))
        ∗ (cred (tallyAt (barCell c) () 2) ∗ atPos ER (barCell c) 0 ∅ 0) ∗ owing c (owed₀ c))
      ⊢ runs c (handshake c) fun _ => iprop(atPos ER (barCell c) 1 ∅ 0 ∗ (bigSep Finset.univ fun k : Fin 8 => someAt (px c) (xrC k))
          ∗ (bigSep Finset.univ fun k : Fin 8 => someAt (py c) (outC c k)) ∗ owing c (owed₂ c 0)) := by
  unfold handshake known
  simp only [semSignalWord, semWaitWord, Prog.lift, Prog.bind_op, Prog.bind_ret]
  iintro ⟨⟨#HR, #HL⟩, ⟨Htx, Hx⟩, ⟨Hty, Hy⟩, ⟨Hc, Hp⟩, HO⟩
  iapply (run_signal m K c (px c) false (owed₁ c) rfl) $$ [Htx Hx HO]
  · isplitr; · iexact HR
    isplitl [Htx]; · iexact Htx
    isplitl [Hx]
    · unfold barPay; rw [if_neg Bool.false_ne_true, px_px]; iexact Hx
    iexact HO
  iintro HO
  iapply (run_signal m K c (py c) true (owed₂ c 0) rfl) $$ [Hty Hy HO]
  · isplitr; · iexact HR
    isplitl [Hty]; · iexact Hty
    isplitl [Hy]
    · unfold barPay; rw [if_pos rfl, py_py]; iexact Hy
    iexact HO
  iintro HO
  iapply (run_barrier m K c (owed₂ c 0) (mayWait₂ c _ 0 le_rfl)) $$ [Hc Hp HO]
  · isplitr; · iexact HR
    isplitr; · iexact HL
    isplitl [Hc]; · iexact Hc
    isplitl [Hp] <;> iassumption
  unfold barPay
  rw [if_neg Bool.false_ne_true, if_pos rfl]
  iintro ⟨⟨Hx, Hy⟩, Hp, HO⟩
  iapply (run_done c PUnit.unit)
  isplitl [Hp]; · iexact Hp
  isplitl [Hx]; · iexact Hx
  isplitl [Hy] <;> iassumption

/-- Rounding a chunk and sending it to the other device of the pair. -/
theorem stage_sendX (k : Fin 8) :
    iprop(known m K ∗ sendXA c k ∗ owing c (owed₂ c k.val))
      ⊢ runs c (sendX c k) fun _ => iprop(sendXB m c k ∗ owing c (owed₂ c (k.val + 1))) := by
  unfold sendX sendXA sendXB known
  simp only [Prog.lift, Prog.bind_op, Prog.bind_ret]
  iintro ⟨⟨#HR, #HL⟩, ⟨⟨Hp, Ht, Ht', Hs⟩, Hc, Hd⟩, HO⟩
  iapply (run_wait m K c (.pq k) (src := inC c k) (dst := pqC k) rfl (owed₂ c k.val) (mayWait₂ c _ _ (lv_self c _ _ (Nat.zero_le _)))) $$ [Hp Hc HO]
  · isplitr; · iexact HR
    isplitr; · iexact HL
    isplitl [Hc]; · iexact Hc
    isplitl [Hp] <;> iassumption
  iintro ⟨Hpay, Hp, HO⟩
  unfold pay
  icases Hpay with ⟨Hpq, Hin⟩
  iapply (run_load c (M := pqM) (r := cRect k) (fun _ => rfl) (q := fullShare) (X := inV m c k)) $$ Hpq
  iintro Hpq
  unfold someAt
  icases Hs with ⟨%X, Hs⟩
  iapply (run_load c (M := xsM) (r := cRect k) (fun _ => rfl) (q := fullShare) (X := X)) $$ Hs
  iintro Hs
  iapply (run_store c (M := xsM) (r := cRect k) (w := packed (inV m c k)) (fun _ => rfl) (X := X)) $$ Hs
  iintro Hs
  iapply (run_send m K c (px c) (.xs k) (.xr k) (src := xsC k) (dst := xrC k) rfl rfl (q := fullShare) (X := xv m c k)
    .rfl (by unfold pay; rw [px_px]) (O₀ := owed₂ c k.val) (owed₂ c (k.val + 1))
    (by unfold owed₂; rw [owedX_peel, add_assoc])) $$ [Ht Ht' Hs Hd HO]
  · isplitr; · iexact HR
    isplitl [Ht]; · iexact Ht
    isplitl [Ht']; · iexact Ht'
    isplitl [Hs]; · iexact Hs
    isplitl [Hd]; · unfold someAt; iexact Hd
    iexact HO
  iintro ⟨Hc, HO⟩
  iapply (run_done c PUnit.unit)
  isplitr [HO]
  · isplitr [Hc]
    · isplitl [Hp]; · iexact Hp
      isplitl [Hpq] <;> iassumption
    iexact Hc
  iexact HO

/-- Waiting for the own quarter and the scale, and reading the scale. -/
theorem stage_readRest :
    iprop(known m K ∗ (posOf c .mine 0 ∗ credOf c .mine) ∗ (posOf c .gam 0 ∗ credOf c .gam) ∗ owing c (owedY c 0))
      ⊢ runs c (readRest c) fun g => iprop(⌜g = gamV m c⌝ ∗ (posOf c .mine 1 ∗ pay m c .mine) ∗ (posOf c .gam 1 ∗ pay m c .gam)
          ∗ owing c (owedY c 0)) := by
  unfold readRest known
  simp only [Prog.lift, Prog.bind_op, Prog.bind_ret]
  iintro ⟨⟨#HR, #HL⟩, ⟨Hp, Hc⟩, ⟨Hp', Hc'⟩, HO⟩
  iapply (run_wait m K c .mine (src := inMine c) (dst := mqM) rfl (owedY c 0) (mayWaitY c _ _ (lv_self c _ _ (Nat.zero_le _)))) $$ [Hp Hc HO]
  · isplitr; · iexact HR
    isplitr; · iexact HL
    isplitl [Hc]; · iexact Hc
    isplitl [Hp] <;> iassumption
  iintro ⟨Hpay, Hp, HO⟩
  iapply (run_wait m K c .gam (src := gaM) (dst := gM) rfl (owedY c 0) (mayWaitY c _ _ (lv_self c _ _ (Nat.zero_le _)))) $$ [Hp' Hc' HO]
  · isplitr; · iexact HR
    isplitr; · iexact HL
    isplitl [Hc']; · iexact Hc'
    isplitl [Hp'] <;> iassumption
  iintro ⟨Hpay', Hp', HO⟩
  ihave Hq := (show pay m c .gam ⊢ iprop((((c : Thread nD τ).loc cc0_scratch2) ↦{fullShare} gamV m c) ∗ at' c gaM fullShare (gamV m c)) from
    sep_mono_left (Entails.of_eq (owns_whole (c : Thread nD τ) cc0_scratch2 fullShare (gamV m c)))) $$ Hpay'
  icases Hq with ⟨Hg, Hga⟩
  iapply (wp_load 𝒱₀ (c : Thread nD τ) none Set.univ (m := gM) (f := gamV m c) (Finset.subset_univ _)) $$ Hg
  iintro Hg
  iapply (run_done c _)
  isplitr
  · ipureintro
    exact Memref.readAt_unit_zero (Elt F) cc0_scratch2 (funext fun a => by fin_cases a; rfl) _ _
  isplitl [Hp Hpay]
  · isplitl [Hp] <;> iassumption
  isplitr [HO]
  · isplitl [Hp']; · iexact Hp'
    unfold pay
    isplitl [Hg]
    · ihave H := (Entails.of_eq (owns_whole (c : Thread nD τ) cc0_scratch2 fullShare (gamV m c)).symm) $$ Hg
      iexact H
    iexact Hga
  iexact HO

/-- Normalising a chunk and sending it to the device of the other half. -/
theorem stage_sendY (k : Fin 8) :
    iprop(known m K ∗ sendYA m c k ∗ owing c (owedY c k.val))
      ⊢ runs c (sendY c (gamV m c) k) fun _ => iprop(sendYB m c k ∗ owing c (owedY c (k.val + 1))) := by
  unfold sendY sendYA sendYB known
  simp only [Prog.lift, Prog.bind_op, Prog.bind_ret]
  iintro ⟨⟨#HR, #HL⟩, ⟨⟨Hp, Hc, Ht, Ht', Hs⟩, Hmq, Hd⟩, HO⟩
  iapply (run_wait m K c (.xr k) (src := xsC k) (dst := xrC k) rfl (owedY c k.val) (mayWaitY c _ _ (lv_self c _ _ le_rfl))) $$ [Hp Hc HO]
  · isplitr; · iexact HR
    isplitr; · iexact HL
    isplitl [Hc]; · iexact Hc
    isplitl [Hp] <;> iassumption
  iintro ⟨Hxr, Hp, HO⟩
  unfold pay
  iapply (run_load c (M := mqM) (r := cRect k) (fun _ => rfl) (q := fullShare) (X := mineK m c k)) $$ Hmq
  iintro Hmq
  iapply (run_load c (M := xrM) (r := cRect k) (fun _ => rfl) (q := fullShare) (X := xv m (px c) k)) $$ Hxr
  iintro Hxr
  unfold someAt
  icases Hs with ⟨%X, Hs⟩
  iapply (run_load c (M := ovM) (r := cRect k) (fun _ => rfl) (q := fullShare) (X := X)) $$ Hs
  iintro Hs
  iapply (run_store c (M := ovM) (r := cRect k) (w := yv m c k) (fun _ => rfl) (X := X)) $$ Hs
  iintro Hs
  ihave Hs' := (owns_halves (c : Thread nD τ) (ovC k) fullShare (yv m c k)).1 $$ Hs
  icases Hs' with ⟨Hl, Hs⟩
  iapply (run_send m K c (py c) (.ys k) (.yr k) (src := ovC k) (dst := outC c k) rfl rfl (q := fullShare.right) (X := yv m c k)
    .rfl (by unfold pay; rw [py_py]) (O₀ := owedY c k.val) (owedY c (k.val + 1)) (owedY_peel c k)) $$ [Ht Ht' Hs Hd HO]
  · isplitr; · iexact HR
    isplitl [Ht]; · iexact Ht
    isplitl [Ht']; · iexact Ht'
    isplitl [Hs]; · iexact Hs
    isplitl [Hd]; · unfold someAt; iexact Hd
    iexact HO
  iintro ⟨Hc, HO⟩
  iapply (run_done c PUnit.unit)
  isplitr [HO]
  · isplitl [Hp Hxr]
    · isplitl [Hp] <;> iassumption
    isplitl [Hmq]; · iexact Hmq
    isplitl [Hl] <;> iassumption
  iexact HO

/-- The rows the device computed, joined from their chunks at one share, -/
theorem join_ov (q : PosShare TreeShare) :
    (bigSep Finset.univ fun k : Fin 8 => at' c (ovC k) q (yv m c k)) ⊢ at' c ovM q (yAll m c) := by
  refine BIBase.Entails.trans (Entails.of_eq (bigSep_congr fun k _ => ?_))
    (owns_of_rects (c : Thread nD τ) ovM q cRect (fun _ _ => rfl) cRect_disjoint cRect_cover (yAll m c))
  rw [yAll_emb]

/-- and a scratch buffer cut into chunks. -/
theorem cut_mq : at' c mqM fullShare (mineV m c)
    ⊢ bigSep Finset.univ fun k : Fin 8 => at' c (mqM.slice (cRect k) (fun _ => rfl)) fullShare (mineK m c k) :=
  owns_rects (c : Thread nD τ) mqM fullShare cRect (fun _ _ => rfl) cRect_disjoint cRect_cover (mineV m c)

/-- Starting the write of the own half. -/
theorem stage_writeStart :
    iprop(known m K ∗ (tokOf c .out ∗ someAt c (outMine c)) ∗ bigSep Finset.univ fun k : Fin 8 => at' c (ovC k) fullShare.left (yv m c k))
      ⊢ runs c (writeStart c) fun _ => credOf c .out := by
  unfold writeStart known
  simp only [Prog.lift]
  iintro ⟨⟨#HR, #HL⟩, ⟨Ht, Hd⟩, Hs⟩
  ihave Hs' := (join_ov m c fullShare.left) $$ Hs
  iapply (run_copy m K c .out (src := ovM) (dst := outMine c) rfl (X := yAll m c) .rfl) $$ [Ht Hs' Hd]
  · isplitr; · iexact HR
    isplitl [Ht]; · iexact Ht
    isplitl [Hs'] <;> iassumption
  iintro Hc
  iapply (run_done c PUnit.unit)
  iexact Hc

/-- Waiting for a chunk of the other half. -/
theorem stage_waitY (k : Fin 8) :
    iprop(known m K ∗ waitYA c k ∗ owing c 0) ⊢ runs c (waitY c k) fun _ => iprop(waitYB m c k ∗ owing c 0) := by
  unfold waitY waitYA waitYB known
  simp only [Prog.lift]
  iintro ⟨⟨#HR, #HL⟩, ⟨Hp, Hc⟩, HO⟩
  iapply (run_wait m K c (.yr k) (src := ovC k) (dst := outC c k) rfl 0 (mayWait_none c _)) $$ [Hp Hc HO]
  · isplitr; · iexact HR
    isplitr; · iexact HL
    isplitl [Hc]; · iexact Hc
    isplitl [Hp] <;> iassumption
  unfold pay
  iintro ⟨Hpay, Hp, HO⟩
  iapply (run_done c PUnit.unit)
  isplitr [HO]
  · isplitl [Hp] <;> iassumption
  iexact HO

/-- Waiting for the write of the own half. -/
theorem stage_writeWait :
    iprop(known m K ∗ (posOf c .out 0 ∗ credOf c .out) ∗ owing c 0)
      ⊢ runs c (writeWait c) fun _ => iprop((posOf c .out 1 ∗ pay m c .out) ∗ owing c 0) := by
  unfold writeWait known
  simp only [Prog.lift]
  iintro ⟨⟨#HR, #HL⟩, ⟨Hp, Hc⟩, HO⟩
  iapply (run_wait m K c .out (src := ovM) (dst := outMine c) rfl 0 (mayWait_none c _)) $$ [Hp Hc HO]
  · isplitr; · iexact HR
    isplitr; · iexact HL
    isplitl [Hc]; · iexact Hc
    isplitl [Hp] <;> iassumption
  iintro ⟨Hpay, Hp, HO⟩
  iapply (run_done c PUnit.unit)
  isplitr [HO]
  · isplitl [Hp] <;> iassumption
  iexact HO

/-- Waiting for a chunk's two departures. -/
theorem stage_drain (k : Fin 8) :
    iprop(known m K ∗ drainA c k ∗ owing c 0) ⊢ runs c (drain c k) fun _ => iprop(drainB m c k ∗ owing c 0) := by
  unfold drain drainA drainB known
  simp only [Prog.lift, Prog.bind_op, Prog.bind_ret]
  iintro ⟨⟨#HR, #HL⟩, ⟨⟨Hp, Hp'⟩, Hc, Hc'⟩, HO⟩
  iapply (run_wait m K c (.xs k) (src := xrC k) (dst := xsC k) rfl 0 (mayWait_none c _)) $$ [Hp Hc HO]
  · isplitr; · iexact HR
    isplitr; · iexact HL
    isplitl [Hc]; · iexact Hc
    isplitl [Hp] <;> iassumption
  iintro ⟨Hx, Hp, HO⟩
  iapply (run_wait m K c (.ys k) (src := outC c k) (dst := ovC k) rfl 0 (mayWait_none c _)) $$ [Hp' Hc' HO]
  · isplitr; · iexact HR
    isplitr; · iexact HL
    isplitl [Hc']; · iexact Hc'
    isplitl [Hp'] <;> iassumption
  unfold pay
  iintro ⟨Hy, Hp', HO⟩
  iapply (run_done c PUnit.unit)
  isplitr [HO]
  · isplitl [Hp Hp']
    · isplitl [Hp] <;> iassumption
    isplitl [Hx] <;> iassumption
  iexact HO

end Cert.KernelIdeal.Hand

end
-- ==== Proof.KernelIdeal.Body.lean ====
/-
# The kernel on one device

The kernel of device `c`, from what it holds when it starts to what it holds when it is done.
-/
module

public import proofs.«01_k».proof.Proof.KernelIdeal.Stages

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × SemLoc sig → ℕ) (c : Dev nD)

/-- A resource for each chunk. -/
abbrev all8 (A : Fin 8 → sProp 𝕄) : sProp 𝕄 := bigSep Finset.univ A

/-- The rights of device `c`: the transfers it makes, its two units to the neighbours' barriers, and its places in the
    rounds of its own semaphores; and the credit others give it. -/
def rights : sProp 𝕄 :=
  iprop(all8 (fun k => tokOf c (.pq k)) ∗ tokOf c .mine ∗ tokOf c .gam ∗ tokOf c .out
    ∗ all8 (fun k => tokOf c (.xs k)) ∗ all8 (fun k => tokOf (px c) (.xr k)) ∗ all8 (fun k => tokOf c (.ys k)) ∗ all8 (fun k => tokOf (py c) (.yr k))
    ∗ dutyTok ER (barCell (px c)) 0 false ∗ dutyTok ER (barCell (py c)) 0 true)
/-- The places, at round `r` of each semaphore. -/
def places (r : ℕ) : sProp 𝕄 :=
  iprop(atPos ER (barCell c) r ∅ 0 ∗ all8 (fun k => posOf c (.pq k) r) ∗ posOf c .mine r ∗ posOf c .gam r ∗ posOf c .out r
    ∗ all8 (fun k => posOf c (.xs k) r) ∗ all8 (fun k => posOf c (.xr k) r) ∗ all8 (fun k => posOf c (.ys k) r) ∗ all8 (fun k => posOf c (.yr k) r))
/-- The credit that the neighbours give. -/
def credits : sProp 𝕄 :=
  iprop(cred (tallyAt (barCell c) () 2) ∗ all8 (fun k => credOf c (.xr k)) ∗ all8 (fun k => credOf c (.yr k)))
/-- The memory at the start: the arguments, and the places to be written at any contents. -/
def memIn : sProp 𝕄 :=
  iprop((all8 (fun k => at' c (inC c k) fullShare (inV m c k)) ∗ at' c (inMine c) fullShare (mineV m c)) ∗ at' c gaM fullShare (gamV m c)
    ∗ (someAt c (outMine c) ∗ all8 (fun k => someAt c (outC (py c) k)))
    ∗ all8 (fun k => someAt c (pqC k)) ∗ someAt c mqM ∗ someAt c gM ∗ all8 (fun k => someAt c (xsC k)) ∗ all8 (fun k => someAt c (xrC k))
    ∗ all8 (fun k => someAt c (ovC k)))
/-- The memory at the end: the arguments as they were, both halves of the result, and the scratch buffers. -/
def memOut : sProp 𝕄 :=
  iprop((all8 (fun k => at' c (inC c k) fullShare (inV m c k)) ∗ at' c (inMine c) fullShare (mineV m c)) ∗ at' c gaM fullShare (gamV m c)
    ∗ (at' c (outMine c) fullShare (yAll m c) ∗ all8 (fun k => at' c (outC (py c) k) fullShare (yv m (py c) k)))
    ∗ all8 (fun k => at' c (pqC k) fullShare (inV m c k)) ∗ all8 (fun k => at' c (mqM.slice (cRect k) (fun _ => rfl)) fullShare (mineK m c k))
    ∗ at' c gM fullShare (gamV m c) ∗ all8 (fun k => at' c (xsC k) fullShare (xv m c k)) ∗ all8 (fun k => at' c (xrC k) fullShare (xv m (px c) k))
    ∗ at' c ovM fullShare (yAll m c))

/-- A step, then the rest: the step's leavings are the rest's. -/
theorem run_then {α β : Type} {p : KProg (F := F) α} {k : α → KProg (F := F) β} {P : sProp 𝕄} {Q' : α → sProp 𝕄} {Q : β → sProp 𝕄}
    (hp : P ⊢ runs c p Q') : P ⊢ iprop((∀ a, Q' a -∗ runs c (k a) Q) -∗ runs c (p >>= k) Q) := by
  iintro HP Hk
  iapply (run_seq c hp (R := iprop(∀ a, Q' a -∗ runs c (k a) Q)) (fun a => by
    iintro ⟨Ha, Hk⟩
    ispecialize Hk $$ %a
    iapply Hk $$ Ha))
  isplitl [HP] <;> iassumption

/-- The rows the device computed, its two shares of the whole joined. -/
theorem ov_whole :
    iprop(at' c ovM fullShare.left (yAll m c) ∗ all8 (fun k => at' c (ovC k) fullShare.right (yv m c k))) ⊢ at' c ovM fullShare (yAll m c) := by
  iintro ⟨Hl, Hr⟩
  ihave Hr' := (join_ov m c fullShare.right) $$ Hr
  iapply (owns_halves (c : Thread nD τ) ovM fullShare (yAll m c)).2
  isplitl [Hl] <;> iassumption

/-- The kernel of device `c`. -/
theorem body_run :
    iprop(known m K ∗ rights c ∗ places c 0 ∗ credits c ∗ memIn m c ∗ owing c (owed₀ c))
      ⊢ runs c (chunked (F := F)) fun _ => iprop(places c 1 ∗ memOut m c ∗ owing c 0) := by
  unfold rights places credits memIn memOut
  iintro ⟨#HR, ⟨Tpq, Tmine, Tgam, Tout, Txs, Txr, Tys, Tyr, Tbx, Tby⟩, ⟨Pbar, Ppq, Pmine, Pgam, Pout, Pxs, Pxr, Pys, Pyr⟩, ⟨Cbar, Cxr, Cyr⟩,
    ⟨⟨Min, Mmine⟩, Mga, ⟨MoutM, Mout⟩, Mpq, Mmq, Mg, Mxs, Mxr, Mov⟩, HO⟩
  unfold chunked
  iapply (show runs c (do
      each (loadStart c)
      loadRest c
      handshake c
      each (sendX c)
      let g ← readRest c
      each (sendY c g)
      writeStart c
      each (waitY c)
      writeWait c
      each (drain c)) _ ⊢ runs c (chunked (F := F)) _ from by
    unfold chunked runs; simp only [Prog.lift, Prog.bind_op, Prog.bind_ret]; rw [wp_deviceId])
  -- the loads are started
  iapply (run_then c (run_each c (loadStart c) (known m K) (loadA m c) (fun k => credOf c (.pq k)) (fun _ => iprop(emp)) (stage_loadStart m K c))) $$ [Tpq Min Mpq]
  · isplitr; · iexact HR
    isplitl
    · unfold loadA; simp only [bigSep_sep']
      isplitl [Tpq]; · iexact Tpq
      isplitl [Min] <;> iassumption
    iempintro
  iintro %_ ⟨Cpq, -⟩
  iapply (run_then c (stage_loadRest m K c)) $$ [Tmine Mmine Mmq Tgam Mga Mg]
  · isplitr; · iexact HR
    isplitl [Tmine Mmine Mmq]
    · isplitl [Tmine]; · iexact Tmine
      isplitl [Mmine] <;> iassumption
    isplitl [Tgam]; · iexact Tgam
    isplitl [Mga] <;> iassumption
  iintro %_ ⟨Cmine, Cgam⟩
  -- the neighbours are ready
  iapply (run_then c (stage_handshake m K c)) $$ [Tbx Mxr Tby Mout Cbar Pbar HO]
  · isplitr; · iexact HR
    isplitl [Tbx Mxr]
    · isplitl [Tbx] <;> iassumption
    isplitl [Tby Mout]
    · isplitl [Tby] <;> iassumption
    isplitl [Cbar Pbar]
    · isplitl [Cbar] <;> iassumption
    iexact HO
  iintro %_ ⟨Pbar, Nxr, Nout, HO⟩
  -- the partial sums are sent
  iapply (run_then c (run_each c (sendX c) (known m K) (sendXA c) (sendXB m c) (fun n => owing c (owed₂ c n)) (stage_sendX m K c))) $$ [Ppq Txs Txr Mxs Cpq Nxr HO]
  · isplitr; · iexact HR
    isplitr [HO]
    · unfold sendXA; simp only [bigSep_sep']
      isplitr [Cpq Nxr]
      · isplitl [Ppq]; · iexact Ppq
        isplitl [Txs]; · iexact Txs
        isplitl [Txr] <;> iassumption
      isplitl [Cpq] <;> iassumption
    iexact HO
  unfold sendXB
  simp only [bigSep_sep']
  iintro %_ ⟨⟨⟨Ppq, Mpq, Min⟩, Cxs⟩, HO⟩
  ihave HO' := (show owing c (owed₂ c 8) ⊢ (owing c (owedY c 0) : sProp 𝕄) from Entails.of_eq (by unfold owed₂; rw [owedX_end, add_zero])) $$ HO
  -- the own quarter and the scale have arrived
  iapply (run_then c (stage_readRest m K c)) $$ [Pmine Cmine Pgam Cgam HO']
  · isplitr; · iexact HR
    isplitl [Pmine Cmine]
    · isplitl [Pmine] <;> iassumption
    isplitl [Pgam Cgam]
    · isplitl [Pgam] <;> iassumption
    iexact HO'
  iintro %g ⟨%hg, ⟨Pmine, Dmine⟩, ⟨Pgam, Dgam⟩, HO⟩
  subst hg
  ihave Dmine' := (show pay m c .mine ⊢ iprop(at' c mqM fullShare (mineV m c) ∗ at' c (inMine c) fullShare (mineV m c)) from .rfl) $$ Dmine
  ihave Dgam' := (show pay m c .gam ⊢ iprop(at' c gM fullShare (gamV m c) ∗ at' c gaM fullShare (gamV m c)) from .rfl) $$ Dgam
  icases Dmine' with ⟨Mmq, Mmine⟩
  icases Dgam' with ⟨Mg, Mga⟩
  ihave Mmq' := (cut_mq m c) $$ Mmq
  -- the rows are computed and sent
  iapply (run_then c (run_each c (sendY c (gamV m c)) (known m K) (sendYA m c) (sendYB m c) (fun n => owing c (owedY c n)) (stage_sendY m K c)))
    $$ [Pxr Cxr Tys Tyr Mov Mmq' Nout HO]
  · isplitr; · iexact HR
    isplitr [HO]
    · unfold sendYA; simp only [bigSep_sep']
      isplitr [Mmq' Nout]
      · isplitl [Pxr]; · iexact Pxr
        isplitl [Cxr]; · iexact Cxr
        isplitl [Tys]; · iexact Tys
        isplitl [Tyr] <;> iassumption
      isplitl [Mmq'] <;> iassumption
    iexact HO
  unfold sendYB
  simp only [bigSep_sep']
  iintro %_ ⟨⟨⟨Pxr, Mxr⟩, Mmq, Mov, Cys⟩, HO⟩
  ihave HO' := (show owing c (owedY c 8) ⊢ (owing c 0 : sProp 𝕄) from Entails.of_eq (by rw [owedY_end])) $$ HO
  -- the own half is written
  iapply (run_then c (stage_writeStart m K c)) $$ [Tout MoutM Mov]
  · isplitr; · iexact HR
    isplitl [Tout MoutM]
    · isplitl [Tout] <;> iassumption
    iexact Mov
  iintro %_ Cout
  -- the other half has arrived
  iapply (run_then c (run_each c (waitY c) (known m K) (waitYA c) (waitYB m c) (fun _ => owing c 0) (stage_waitY m K c))) $$ [Pyr Cyr HO']
  · isplitr; · iexact HR
    isplitr [HO']
    · unfold waitYA; simp only [bigSep_sep']
      isplitl [Pyr] <;> iassumption
    iexact HO'
  unfold waitYB
  simp only [bigSep_sep']
  iintro %_ ⟨⟨Pyr, Mout⟩, HO⟩
  iapply (run_then c (stage_writeWait m K c)) $$ [Pout Cout HO]
  · isplitr; · iexact HR
    isplitl [Pout Cout]
    · isplitl [Pout] <;> iassumption
    iexact HO
  iintro %_ ⟨⟨Pout, Dout⟩, HO⟩
  ihave Dout' := (show pay m c .out ⊢ iprop(at' c (outMine c) fullShare (yAll m c) ∗ at' c ovM fullShare.left (yAll m c)) from .rfl) $$ Dout
  icases Dout' with ⟨MoutM, MovL⟩
  -- the departures are over
  ihave Hlast := (run_each c (drain c) (known m K) (drainA c) (drainB m c) (fun _ => owing c 0) (stage_drain m K c)) $$ [Pxs Pys Cxs Cys HO]
  · isplitr; · iexact HR
    isplitr [HO]
    · unfold drainA; simp only [bigSep_sep']
      isplitl [Pxs Pys]
      · isplitl [Pxs] <;> iassumption
      isplitl [Cxs] <;> iassumption
    iexact HO
  unfold runs
  iapply wp_wand $$ Hlast
  unfold drainB
  simp only [bigSep_sep']
  iintro %_ ⟨⟨⟨Pxs, Pys⟩, Mxs, MovR⟩, HO⟩
  ihave Mov := (ov_whole m c) $$ [MovL MovR]
  · isplitl [MovL] <;> iassumption
  isplitr [Min Mmine Mga MoutM Mout Mpq Mmq Mg Mxs Mxr Mov HO]
  · isplitl [Pbar]; · iexact Pbar
    isplitl [Ppq]; · iexact Ppq
    isplitl [Pmine]; · iexact Pmine
    isplitl [Pgam]; · iexact Pgam
    isplitl [Pout]; · iexact Pout
    isplitl [Pxs]; · iexact Pxs
    isplitl [Pxr]; · iexact Pxr
    isplitl [Pys] <;> iassumption
  isplitr [HO]
  · isplitl [Min Mmine]
    · isplitl [Min] <;> iassumption
    isplitl [Mga]; · iexact Mga
    isplitl [MoutM Mout]
    · isplitl [MoutM] <;> iassumption
    isplitl [Mpq]; · iexact Mpq
    isplitl [Mmq]; · iexact Mmq
    isplitl [Mg]; · iexact Mg
    isplitl [Mxs]; · iexact Mxs
    isplitl [Mxr] <;> iassumption
  iexact HO

end Cert.KernelIdeal.Hand

end
-- ==== Proof.KernelIdeal.Memory.lean ====
/-
# Memory by chunks

The buffers a device holds whole, cut into the pieces the kernel moves, and joined back.
-/
module

public import proofs.«01_k».proof.Proof.KernelIdeal.Body

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-! ## A memref's contents and its elements -/

/-- A memref owned at what some contents read there has its elements at those contents. -/
theorem points_of_at {sp : Space} {s : Shape} {e : EltTy} (M : Memref sig .tc sp s e) (q : PosShare TreeShare) (f : M.view.ty.Contents (Elt F)) :
    at' c M q (M.view.read (Elt F) f) ⊢ (M.view.loc (c : Thread nD τ) ↦[M.view.set]{q} f : sProp 𝕄) := by
  show owns (c : Thread nD τ) M q (M.view.read (Elt F) f) ⊢ _
  unfold owns
  iintro ⟨%g, %hg, H⟩
  iapply (Entails.of_eq (pointsTo_congr (f := g) (g := f) fun i hi => by
    obtain ⟨x, -, rfl⟩ := Finset.mem_map.mp hi
    have hx : M.view.read (Elt F) g x = M.view.read (Elt F) f x := congrFun hg x
    rw [View.read_apply, View.read_apply] at hx
    exact cast_bijective _ |>.1 hx))
  iexact H

/-- The elements under a memref are the memref owned at what they read. -/
theorem at_of_points {sp : Space} {s : Shape} {e : EltTy} (M : Memref sig .tc sp s e) (q : PosShare TreeShare) (f : M.view.ty.Contents (Elt F)) :
    (M.view.loc (c : Thread nD τ) ↦[M.view.set]{q} f : sProp 𝕄) ⊢ at' c M q (M.view.read (Elt F) f) :=
  owns_intro (c : Thread nD τ) M q f

/-- A memref owned at known contents is owned at some contents. -/
theorem some_of_at {sp : Space} {s : Shape} {e : EltTy} (M : Memref sig .tc sp s e) (X : s.Idx → Elt F e) : at' c M fullShare X ⊢ someAt c M := by
  unfold someAt; iintro H; iexists X; iexact H

/-! ## The scratch buffers -/

/-- A buffer held whole, and the memref of all of it. -/
theorem whole_at (b : Ref sig .tc) : iprop(∃ f, ((c : Thread nD τ).loc b) ↦{fullShare} f) ⊢ (someAt c (Memref.whole b) : sProp 𝕄) := by
  iintro ⟨%f, H⟩
  unfold someAt; iexists f; rw [owns_whole]; iexact H

/-- A buffer owned through the memref of all of it is held whole. -/
theorem at_whole (b : Ref sig .tc) (X : b.ty.shape.Idx → Elt F b.ty.elt) : at' c (Memref.whole b) fullShare X ⊢ (iprop(∃ f, ((c : Thread nD τ).loc b) ↦{fullShare} f) : sProp 𝕄) := by
  iintro H
  iexists X
  iapply (Entails.of_eq (owns_whole (c : Thread nD τ) b fullShare X))
  iexact H

/-- A scratch buffer of 256 rows cut into its chunks, -/
theorem cut8 {e : EltTy} (M : Memref sig .tc .vmem S256x512 e) :
    (someAt c M : sProp 𝕄) ⊢ all8 fun k => someAt c (M.slice (cRect k) (fun _ => rfl)) := by
  unfold someAt
  iintro ⟨%X, H⟩
  iapply ((owns_rects (c : Thread nD τ) M fullShare cRect (fun _ _ => rfl) cRect_disjoint cRect_cover X).trans
    (bigSep_mono fun k _ => show at' c (M.slice (cRect k) (fun _ => rfl)) fullShare (fun j => X ((cRect k).emb j)) ⊢ _ from some_of_at c _ _))
  iexact H

/-- and joined from them. -/
theorem join8 {e : EltTy} (M : Memref sig .tc .vmem S256x512 e) (X : Fin 8 → S32x512.Idx → Elt F e) :
    (all8 fun k => at' c (M.slice (cRect k) (fun _ => rfl)) fullShare (X k)) ⊢ at' c M fullShare (Rect.glue cRect cRect_cover X) := by
  refine BIBase.Entails.trans (Entails.of_eq (bigSep_congr fun k _ => ?_))
    (owns_of_rects (c : Thread nD τ) M fullShare cRect (fun _ _ => rfl) cRect_disjoint cRect_cover (Rect.glue cRect cRect_cover X))
  rw [show (fun j => Rect.glue cRect cRect_cover X ((cRect k).emb j)) = X k from
    funext fun j => Rect.glue_emb cRect cRect_cover cRect_disjoint X k j]

/-! ## The partial sums -/

/-- The elements of the partial sums that the kernel loads: its own quarter, and each chunk of the other. -/
def inSet : Unit ⊕ Fin 8 → Finset S1x1024x512.Idx
  | .inl _ => (Rect.unit (s := S1x1024x512) (k0_off2 c) S1x256x512.size (k0_off2_inb c)).set
  | .inr k => (Rect.unit (s := S1x1024x512) (k0_off1 c (BitVec.ofNat 32 (32 * k.val))) S1x32x512.size (k0_off1_inb c k)).set

/-- The own quarter covers its elements of the partial sums, -/
theorem set_inMine : (inMine c).view.set = inSet c (.inl ()) := by
  show ((View.reshape _ _ _).set) = _
  rw [View.set_reshape]; exact View.set_slice_whole _ _
/-- and a chunk to be sent covers its own. -/
theorem set_inC (k : Fin 8) : (inC c k).view.set = inSet c (.inr k) := by
  show ((View.reshape _ _ _).set) = _
  rw [View.set_reshape]; exact View.set_slice_whole _ _

/-- The quarter and the chunks do not overlap. -/
theorem inSet_disjoint (a b : Unit ⊕ Fin 8) (h : a ≠ b) : Disjoint (inSet c a) (inSet c b) := by
  have hc : c.val < 4 := c.isLt
  match a, b, h with
  | .inl _, .inl _, h => exact absurd rfl h
  | .inl _, .inr k, _ =>
    refine Rect.unit_disjoint 1 ?_
    rw [k0_off1_eq, k0_off2_eq]
    show 512 * (c.val / 2) + 256 * (c.val % 2) + 256 ≤ 256 * (c.val % 2) + 32 * k.val + 512 - 512 * (c.val / 2)
      ∨ 256 * (c.val % 2) + 32 * k.val + 512 - 512 * (c.val / 2) + 32 ≤ 512 * (c.val / 2) + 256 * (c.val % 2)
    omega
  | .inr k, .inl _, _ =>
    refine Rect.unit_disjoint 1 ?_
    rw [k0_off1_eq, k0_off2_eq]
    show 256 * (c.val % 2) + 32 * k.val + 512 - 512 * (c.val / 2) + 32 ≤ 512 * (c.val / 2) + 256 * (c.val % 2)
      ∨ 512 * (c.val / 2) + 256 * (c.val % 2) + 256 ≤ 256 * (c.val % 2) + 32 * k.val + 512 - 512 * (c.val / 2)
    omega
  | .inr k, .inr k', h =>
    have hk : k.val ≠ k'.val := fun e => h (congrArg Sum.inr (Fin.ext e))
    refine Rect.unit_disjoint 1 ?_
    rw [k0_off1_eq, k0_off1_eq]
    show 256 * (c.val % 2) + 32 * k.val + 512 - 512 * (c.val / 2) + 32 ≤ 256 * (c.val % 2) + 32 * k'.val + 512 - 512 * (c.val / 2)
      ∨ 256 * (c.val % 2) + 32 * k'.val + 512 - 512 * (c.val / 2) + 32 ≤ 256 * (c.val % 2) + 32 * k.val + 512 - 512 * (c.val / 2)
    omega

/-- Where the partial sums lie. -/
abbrev inLoc : Loc nD τ sig := (c : Thread nD τ).loc main_arg0
/-- The partial sums that the kernel does not load. -/
def inRest : sProp 𝕄 := inLoc c ↦[Ring.restOf (ℓ := inLoc c) (inSet c)]{fullShare} m (inLoc c)

/-- A sum over the own part and the eight chunks. -/
theorem bigSep_pieces (Φ : Unit ⊕ Fin 8 → sProp 𝕄) : bigSep Finset.univ Φ = iprop(Φ (.inl ()) ∗ all8 fun k => Φ (.inr k)) := by
  rw [bigSep_univ_sum, bigSep_univ_of_subsingleton ()]; rfl

/-- The partial sums cut, -/
theorem cut_in : (inLoc c ↦{fullShare} m (inLoc c) : sProp 𝕄)
    ⊢ iprop((all8 (fun k => at' c (inC c k) fullShare (inV m c k)) ∗ at' c (inMine c) fullShare (mineV m c)) ∗ inRest m c) := by
  iintro H
  ihave H' := (Ring.fam_split (ℓ := inLoc c) (inSet c) (inSet_disjoint c) (m (inLoc c))) $$ H
  rw [bigSep_pieces]
  icases H' with ⟨⟨Hm, Hk⟩, Hr⟩
  isplitr [Hr]
  · isplitl [Hk]
    · iapply (show (all8 fun k => (inLoc c ↦[inSet c (.inr k)]{fullShare} m (inLoc c) : sProp 𝕄)) ⊢ all8 fun k => at' c (inC c k) fullShare (inV m c k) from
        bigSep_mono fun k _ => by rw [← set_inC]; exact at_of_points c (inC c k) fullShare (m (inLoc c)))
      iexact Hk
    · iapply (show (inLoc c ↦[inSet c (.inl ())]{fullShare} m (inLoc c) : sProp 𝕄) ⊢ at' c (inMine c) fullShare (mineV m c) from by
        rw [← set_inMine]; exact at_of_points c (inMine c) fullShare (m (inLoc c)))
      iexact Hm
  · unfold inRest; iexact Hr

/-- and joined: they are as they were. -/
theorem join_in : iprop((all8 (fun k => at' c (inC c k) fullShare (inV m c k)) ∗ at' c (inMine c) fullShare (mineV m c)) ∗ inRest m c)
    ⊢ (inLoc c ↦{fullShare} m (inLoc c) : sProp 𝕄) := by
  unfold inRest
  iintro ⟨⟨Hk, Hm⟩, Hr⟩
  iapply (pointsTo_split_subset (ℓ := inLoc c) (I := Finset.univ.biUnion (inSet c)) (Finset.subset_univ _)).2
  isplitr [Hr]
  · iapply (Entails.of_eq (pointsTo_biUnion (ℓ := inLoc c) (f := m (inLoc c)) Finset.univ (inSet c) (fun b _ b' _ h => inSet_disjoint c b b' h)).symm)
    rw [bigSep_pieces]
    isplitl [Hm]
    · iapply (show at' c (inMine c) fullShare (mineV m c) ⊢ (inLoc c ↦[inSet c (.inl ())]{fullShare} m (inLoc c) : sProp 𝕄) from by
        rw [← set_inMine]; exact points_of_at c (inMine c) fullShare (m (inLoc c)))
      iexact Hm
    · iapply (show (all8 fun k => at' c (inC c k) fullShare (inV m c k)) ⊢ all8 fun k => (inLoc c ↦[inSet c (.inr k)]{fullShare} m (inLoc c) : sProp 𝕄) from
        bigSep_mono fun k _ => by rw [← set_inC]; exact points_of_at c (inC c k) fullShare (m (inLoc c)))
      iexact Hk
  · iexact Hr

/-! ## The result -/

/-- The elements of the result: the own half, and each chunk of the other. -/
def outSet : Unit ⊕ Fin 8 → Finset S512x512.Idx
  | .inl _ => (Rect.unit (s := S512x512) (k0_off4 c) S256x512.size (k0_off4_inb c)).set
  | .inr k => (Rect.unit (s := S512x512) (k0_off3 (py c) (BitVec.ofNat 32 (32 * k.val))) S32x512.size (k0_off3_inb (py c) k)).set

/-- The own half covers its elements of the result, -/
theorem set_outMine : (outMine c).view.set = outSet c (.inl ()) := View.set_slice_whole _ _
/-- and a chunk of the other half covers its own. -/
theorem set_outC (k : Fin 8) : (outC (py c) k).view.set = outSet c (.inr k) := View.set_slice_whole _ _

/-- The device of the other half has the other place in the row. -/
theorem py_half : (py c).val % 2 = 1 - c.val % 2 := by revert c; decide

/-- The own half and the chunks of the other do not overlap, -/
theorem outSet_disjoint (a b : Unit ⊕ Fin 8) (h : a ≠ b) : Disjoint (outSet c a) (outSet c b) := by
  have hp := py_half c
  match a, b, h with
  | .inl _, .inl _, h => exact absurd rfl h
  | .inl _, .inr k, _ =>
    refine Rect.unit_disjoint 0 ?_
    rw [k0_off3_eq, k0_off4_eq]
    show 256 * (c.val % 2) + 256 ≤ 256 * ((py c).val % 2) + 32 * k.val ∨ 256 * ((py c).val % 2) + 32 * k.val + 32 ≤ 256 * (c.val % 2)
    omega
  | .inr k, .inl _, _ =>
    refine Rect.unit_disjoint 0 ?_
    rw [k0_off3_eq, k0_off4_eq]
    show 256 * ((py c).val % 2) + 32 * k.val + 32 ≤ 256 * (c.val % 2) ∨ 256 * (c.val % 2) + 256 ≤ 256 * ((py c).val % 2) + 32 * k.val
    omega
  | .inr k, .inr k', h =>
    have hk : k.val ≠ k'.val := fun e => h (congrArg Sum.inr (Fin.ext e))
    refine Rect.unit_disjoint 0 ?_
    rw [k0_off3_eq, k0_off3_eq]
    show 256 * ((py c).val % 2) + 32 * k.val + 32 ≤ 256 * ((py c).val % 2) + 32 * k'.val ∨ 256 * ((py c).val % 2) + 32 * k'.val + 32 ≤ 256 * ((py c).val % 2) + 32 * k.val
    omega

/-- and together they are the whole result. -/
theorem outSet_cover : Finset.univ.biUnion (outSet c) = Finset.univ := by
  refine Finset.eq_univ_of_forall fun y => ?_
  have hp := py_half c
  have h0 : (y 0).val < 512 := (y 0).isLt
  have h1 : (y 1).val < 512 := (y 1).isLt
  by_cases h : (y 0).val / 256 = c.val % 2
  · refine Finset.mem_biUnion.mpr ⟨.inl (), Finset.mem_univ _, Rect.mem_set_unit.mpr fun a => ?_⟩
    rw [k0_off4_eq]
    match a with
    | 0 => exact ⟨show 256 * (c.val % 2) ≤ (y 0).val by omega, show (y 0).val < 256 * (c.val % 2) + 256 by omega⟩
    | 1 => exact ⟨Nat.zero_le _, show (y 1).val < 0 + 512 by omega⟩
  · refine Finset.mem_biUnion.mpr ⟨.inr ⟨(y 0).val % 256 / 32, by omega⟩, Finset.mem_univ _, Rect.mem_set_unit.mpr fun a => ?_⟩
    rw [k0_off3_eq]
    match a with
    | 0 => exact ⟨show 256 * ((py c).val % 2) + 32 * ((y 0).val % 256 / 32) ≤ (y 0).val by omega,
        show (y 0).val < 256 * ((py c).val % 2) + 32 * ((y 0).val % 256 / 32) + 32 by omega⟩
    | 1 => exact ⟨Nat.zero_le _, show (y 1).val < 0 + 512 by omega⟩

/-- Where the result lies. -/
abbrev outLoc : Loc nD τ sig := (c : Thread nD τ).loc main_v1

/-- The result's place cut, -/
theorem cut_out (f : Buf (Elt F) (outLoc c)) : (outLoc c ↦{fullShare} f : sProp 𝕄) ⊢ iprop(someAt c (outMine c) ∗ all8 fun k => someAt c (outC (py c) k)) := by
  iintro H
  ihave H' := (Ring.fam_split (ℓ := outLoc c) (outSet c) (outSet_disjoint c) f) $$ H
  rw [bigSep_pieces]
  icases H' with ⟨⟨Hm, Hk⟩, -⟩
  isplitl [Hm]
  · iapply (show (outLoc c ↦[outSet c (.inl ())]{fullShare} f : sProp 𝕄) ⊢ someAt c (outMine c) from by
      rw [← set_outMine]; exact (at_of_points c (outMine c) fullShare f).trans (some_of_at c _ _))
    iexact Hm
  · iapply (show (all8 fun k => (outLoc c ↦[outSet c (.inr k)]{fullShare} f : sProp 𝕄)) ⊢ all8 fun k => someAt c (outC (py c) k) from
      bigSep_mono fun k _ => by rw [← set_outC]; exact (at_of_points c (outC (py c) k) fullShare f).trans (some_of_at c _ _))
    iexact Hk

/-- What device `c` finally holds: its own rows, and those of the device of the other half. -/
def Done (f : Buf (Elt F) (outLoc c)) : Prop :=
  (outMine c).view.read (Elt F) f = yAll m c ∧ ∀ k, (outC (py c) k).view.read (Elt F) f = yv m (py c) k

/-- and joined: the result reads as both halves. -/
theorem join_out : iprop(at' c (outMine c) fullShare (yAll m c) ∗ all8 fun k => at' c (outC (py c) k) fullShare (yv m (py c) k))
    ⊢ (iprop(∃ f, ⌜Done m c f⌝ ∗ outLoc c ↦{fullShare} f) : sProp 𝕄) := by
  have hone : at' c (outMine c) fullShare (yAll m c)
      ⊢ (iprop(∃ f : Buf (Elt F) (outLoc c), ⌜(outMine c).view.read (Elt F) f = yAll m c⌝ ∗ outLoc c ↦[outSet c (.inl ())]{fullShare} f) : sProp 𝕄) := by
    rw [← set_outMine]; exact .rfl
  have heach (k : Fin 8) : at' c (outC (py c) k) fullShare (yv m (py c) k)
      ⊢ (iprop(∃ f : Buf (Elt F) (outLoc c), ⌜(outC (py c) k).view.read (Elt F) f = yv m (py c) k⌝ ∗ outLoc c ↦[outSet c (.inr k)]{fullShare} f) : sProp 𝕄) := by
    rw [← set_outC]; exact .rfl
  have hne : ∀ e, Nonempty (Elt F e) := fun _ => inferInstance
  have : Nonempty (Buf (Elt F) (outLoc c)) := ⟨fun _ => Classical.choice (hne _)⟩
  iintro ⟨Hm, Hk⟩
  ihave Hm' := hone $$ Hm
  icases Hm' with ⟨%f, %hf, Hm⟩
  ihave Hk' := (show (all8 fun k => at' c (outC (py c) k) fullShare (yv m (py c) k))
      ⊢ (iprop(∃ fs : Fin 8 → Buf (Elt F) (outLoc c), all8 fun k =>
          iprop(⌜(outC (py c) k).view.read (Elt F) (fs k) = yv m (py c) k⌝ ∗ outLoc c ↦[outSet c (.inr k)]{fullShare} fs k)) : sProp 𝕄) from
    BIBase.Entails.trans (bigSep_mono fun k _ => heach k) (bigSep_exists_pi Finset.univ (fun (k : Fin 8) (f : Buf (Elt F) (outLoc c)) =>
      (iprop(⌜(outC (py c) k).view.read (Elt F) f = yv m (py c) k⌝ ∗ outLoc c ↦[outSet c (.inr k)]{fullShare} f) : sProp 𝕄)))) $$ Hk
  icases Hk' with ⟨%fs, Hk⟩
  ihave Hk' := (bigSep_pure_sep Finset.univ (fun k => (outC (py c) k).view.read (Elt F) (fs k) = yv m (py c) k)
    (fun k => (outLoc c ↦[outSet c (.inr k)]{fullShare} fs k : sProp 𝕄))) $$ Hk
  icases Hk' with ⟨%hk, Hk⟩
  ihave H := (show iprop((outLoc c ↦[outSet c (.inl ())]{fullShare} f) ∗ all8 fun k => (outLoc c ↦[outSet c (.inr k)]{fullShare} fs k))
      ⊢ (bigSep Finset.univ fun j : Unit ⊕ Fin 8 => (outLoc c ↦[outSet c j]{fullShare} (Sum.elim (fun _ => f) fs j) : sProp 𝕄)) from
    Entails.of_eq (bigSep_pieces (fun j : Unit ⊕ Fin 8 => (outLoc c ↦[outSet c j]{fullShare} (Sum.elim (fun _ => f) fs j) : sProp 𝕄))).symm) $$ [Hm Hk]
  · isplitl [Hm] <;> iassumption
  ihave H' := (pointsTo_biUnion_join Finset.univ (outSet c) (Sum.elim (fun _ => f) fs) f (fun b _ b' _ h => outSet_disjoint c b b' h)) $$ H
  icases H' with ⟨%g, %hg, H⟩
  rw [outSet_cover]
  iexists g
  isplitr
  · ipureintro
    refine ⟨(View.read_congr fun i hi => ?_).trans hf, fun k => (View.read_congr fun i hi => ?_).trans (hk k (Finset.mem_univ _))⟩
    · rw [set_outMine] at hi; exact hg (.inl ()) (Finset.mem_univ _) i hi
    · rw [set_outC] at hi; exact hg (.inr k) (Finset.mem_univ _) i hi
  · iexact H

end Cert.KernelIdeal.Hand

end
-- ==== Proof.KernelIdeal.Ghost.lean ====
/-
# What the devices are dealt

At the start every semaphore of every device is given its schedule, and every device its places in the rounds, the
rights to the transfers it makes and the credit for those made to it.
-/
module

public import proofs.«01_k».proof.Proof.KernelIdeal.Memory

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Families over the semaphores of a device -/

/-- The semaphores of a device: the barrier's and the transfers'. -/
def semSplit : Unit ⊕ DmaSem sig ≃ SemLoc sig where
  toFun := Sum.elim (fun _ => .reg barS) .dma
  invFun
    | .reg _ => .inl ()
    | .dma q => .inr q
  left_inv x := by cases x <;> rfl
  right_inv x := by cases x <;> first | rfl | exact congrArg SemLoc.reg (Subsingleton.elim (α := Fin 1) _ _)

/-- A resource for each semaphore is one for the barrier's and one for each transfer's. -/
theorem bigSep_sems (Φ : SemLoc sig → sProp 𝕄) :
    bigSep Finset.univ Φ = iprop(Φ (.reg barS) ∗ bigSep Finset.univ fun q : DmaSem sig => Φ (.dma q)) := by
  rw [bigSep_univ_equiv semSplit Φ, bigSep_univ_sum, bigSep_univ_of_subsingleton ()]; rfl

/-- The uses of the transfer semaphores, as a sum. -/
abbrev Uses : Type := Fin 8 ⊕ Unit ⊕ Unit ⊕ Unit ⊕ Fin 8 ⊕ Fin 8 ⊕ Fin 8 ⊕ Fin 8

/-- The uses and the sum, -/
def usesOf : Uses ≃ Slot where
  toFun
    | .inl k => .pq k
    | .inr (.inl _) => .mine
    | .inr (.inr (.inl _)) => .gam
    | .inr (.inr (.inr (.inl _))) => .out
    | .inr (.inr (.inr (.inr (.inl k)))) => .xs k
    | .inr (.inr (.inr (.inr (.inr (.inl k))))) => .xr k
    | .inr (.inr (.inr (.inr (.inr (.inr (.inl k)))))) => .ys k
    | .inr (.inr (.inr (.inr (.inr (.inr (.inr k)))))) => .yr k
  invFun
    | .pq k => .inl k
    | .mine => .inr (.inl ())
    | .gam => .inr (.inr (.inl ()))
    | .out => .inr (.inr (.inr (.inl ())))
    | .xs k => .inr (.inr (.inr (.inr (.inl k))))
    | .xr k => .inr (.inr (.inr (.inr (.inr (.inl k)))))
    | .ys k => .inr (.inr (.inr (.inr (.inr (.inr (.inl k))))))
    | .yr k => .inr (.inr (.inr (.inr (.inr (.inr (.inr k))))))
  left_inv x := by rcases x with k | k | k | k | k | k | k | k <;> rfl
  right_inv s := by cases s <;> rfl

/-- and the transfer semaphores by their uses. -/
def useSplit : Uses ≃ DmaSem sig := usesOf.trans ⟨semOf, slotOf, slotOf_semOf, semOf_slotOf⟩

/-- A resource for each transfer semaphore, by its use. -/
theorem bigSep_uses (Φ : DmaSem sig → sProp 𝕄) :
    bigSep Finset.univ Φ = iprop(all8 (fun k => Φ (semOf (.pq k))) ∗ Φ (semOf .mine) ∗ Φ (semOf .gam) ∗ Φ (semOf .out)
      ∗ all8 (fun k => Φ (semOf (.xs k))) ∗ all8 (fun k => Φ (semOf (.xr k))) ∗ all8 (fun k => Φ (semOf (.ys k))) ∗ all8 (fun k => Φ (semOf (.yr k)))) := by
  rw [bigSep_univ_equiv useSplit Φ, bigSep_univ_sum, bigSep_univ_sum, bigSep_univ_sum, bigSep_univ_sum, bigSep_univ_sum, bigSep_univ_sum, bigSep_univ_sum,
    bigSep_univ_of_subsingleton (), bigSep_univ_of_subsingleton (), bigSep_univ_of_subsingleton ()]
  rfl

/-- The places of a device, semaphore by semaphore. -/
theorem places_eq (c : Dev nD) (r : ℕ) :
    (places c r : sProp 𝕄) = bigSep Finset.univ fun sm : SemLoc sig => atPos ER ((c : Thread nD τ), sm) r ∅ 0 := by
  rw [bigSep_sems, bigSep_uses]; rfl

/-! ## The rights, as they are made and as they are held -/

/-- The rights to the duties at the device's own semaphores. -/
def ownRights (c : Dev nD) : sProp 𝕄 :=
  iprop((dutyTok ER (barCell c) 0 false ∗ dutyTok ER (barCell c) 0 true)
    ∗ bigSep Finset.univ fun q : DmaSem sig => dutyTok ER ((c : Thread nD τ), .dma q) 0 false)

/-- The other device of the pair, and that of the other half, as exchanges of the devices. -/
def swapX : Dev nD ≃ Dev nD := ⟨px, px, px_px, px_px⟩
def swapY : Dev nD ≃ Dev nD := ⟨py, py, py_py, py_py⟩

/-- Each device hands the rights to its arrivals and to its barrier to those who make them. -/
theorem rights_dealt : (bigSep Finset.univ fun c : Dev nD => (ownRights c : sProp 𝕄)) ⊢ bigSep Finset.univ fun c : Dev nD => rights c := by
  unfold ownRights rights
  simp only [bigSep_uses, bigSep_sep']
  rw [bigSep_univ_equiv swapX (fun c : Dev nD => (dutyTok ER (barCell c) 0 false : sProp 𝕄)),
    bigSep_univ_equiv swapY (fun c : Dev nD => (dutyTok ER (barCell c) 0 true : sProp 𝕄)),
    bigSep_univ_equiv swapX (fun c : Dev nD => (all8 fun k => tokOf c (.xr k) : sProp 𝕄)),
    bigSep_univ_equiv swapY (fun c : Dev nD => (all8 fun k => tokOf c (.yr k) : sProp 𝕄))]
  iintro ⟨⟨Bx, By⟩, Tpq, Tmine, Tgam, Tout, Txs, Txr, Tys, Tyr⟩
  isplitl [Tpq]; · iexact Tpq
  isplitl [Tmine]; · iexact Tmine
  isplitl [Tgam]; · iexact Tgam
  isplitl [Tout]; · iexact Tout
  isplitl [Txs]; · iexact Txs
  isplitl [Txr]; · iexact Txr
  isplitl [Tys]; · iexact Tys
  isplitl [Tyr]; · iexact Tyr
  isplitl [Bx]; · iexact Bx
  iexact By

/-! ## The element of the rounds -/

/-- Every semaphore of every device, -/
abbrev kcell (x : Dev nD × SemLoc sig) : GSem nD τ sig := ((x.1 : Thread nD τ), x.2)

/-- Different devices or semaphores are different cells. -/
theorem kcell_inj : Function.Injective kcell := fun x y h =>
  Prod.ext (congrArg (fun g : GSem nD τ sig => g.1.1) h) (congrArg (fun g : GSem nD τ sig => g.2) h)

def allCells : Finset (GSem nD τ sig) := Finset.univ.map ⟨kcell, kcell_inj⟩

/-- and every duty: two at a barrier, one at each transfer semaphore. -/
abbrev dutyOf (x : Dev nD × (Bool ⊕ DmaSem sig)) : GSem nD τ sig × ℕ × Bool :=
  x.2.elim (fun d => (barCell x.1, 0, d)) (fun q => (((x.1 : Thread nD τ), .dma q), 0, false))

/-- Different entries of the list are different duties. -/
theorem dutyOf_inj : Function.Injective dutyOf := by
  rintro ⟨c, j⟩ ⟨c', j'⟩ h
  have hc : c = c' := by
    have := congrArg (fun x : GSem nD τ sig × ℕ × Bool => x.1.1.1) h
    rcases j with j | j <;> rcases j' with j' | j' <;> exact this
  subst hc
  have hs := congrArg (fun x : GSem nD τ sig × ℕ × Bool => x.1.2) h
  have hd := congrArg (fun x : GSem nD τ sig × ℕ × Bool => x.2.2) h
  rcases j with j | j <;> rcases j' with j' | j'
  · exact congrArg (fun d => (c, Sum.inl d)) hd
  · exact absurd hs fun h => by cases h
  · exact absurd hs fun h => by cases h
  · exact congrArg (fun d => (c, Sum.inr d)) (SemLoc.dma.inj hs)

def allDuties : Finset (GSem nD τ sig × ℕ × Bool) := Finset.univ.map ⟨dutyOf, dutyOf_inj⟩

def u₀ : UU :=
  (initOf (Pipeline.cells cfgs cellOf_inj) (Pipeline.launchToks cfgs cellOf_inj), initOf allCells allDuties)

/-- What the element deals device `c`: each semaphore's round to be made, its place there, and the rights. -/
def G (c : Dev nD) : sProp 𝕄 :=
  iprop((bigSep Finset.univ fun sm : SemLoc sig => roundState ER (sched m) ((c : Thread nD τ), sm) 0)
    ∗ places c 0 ∗ (bigSep Finset.univ fun sm : SemLoc sig => reached ER ((c : Thread nD τ), sm) 0) ∗ ownRights c)

/-- What device `c` starts from: the records of all semaphores, the rights to its transfers, its places. -/
def G' (c : Dev nD) : sProp 𝕄 := iprop(∃ K, records m K ∗ rights c ∗ places c 0)

/-- Something held for every cell is held device by device, semaphore by semaphore. -/
theorem bigSep_cells (Φ : GSem nD τ sig → sProp 𝕄) :
    bigSep allCells Φ = bigSep Finset.univ fun c : Dev nD => bigSep Finset.univ fun sm : SemLoc sig => Φ ((c : Thread nD τ), sm) := by
  unfold allCells; rw [bigSep_map, bigSep_univ_prod]; rfl

/-- The rights to pay all duties are sorted by the device whose cell they concern. -/
theorem bigSep_duties :
    bigSep allDuties (fun x => (dutyTok ER x.1 x.2.1 x.2.2 : sProp 𝕄)) = bigSep Finset.univ fun c : Dev nD => ownRights c := by
  unfold allDuties; rw [bigSep_map, bigSep_univ_prod]
  refine bigSep_congr fun c _ => ?_
  unfold ownRights
  rw [bigSep_univ_sum, bigSep_univ_eq_bigSepL [false, true] (by decide) (by decide)]; rfl

/-- The element of the rounds deals every device its part. -/
theorem fund_all : BI.own (ER (initOf allCells allDuties)) ⊢ (|==> bigSep Finset.univ (G m) : sProp 𝕄) := by
  iintro HX
  imod (Rounds.fund ER (sched m) allCells allDuties) $$ HX with ⟨Hst, Hr, Hat, Htok⟩
  imodintro
  ihave Hst' := (Entails.of_eq (bigSep_cells fun g => roundState ER (sched m) g 0)) $$ Hst
  ihave Hat' := (Entails.of_eq (bigSep_cells (F := F) fun g => atPos ER g 0 ∅ 0)) $$ Hat
  ihave Hr' := (Entails.of_eq (bigSep_cells (F := F) fun g => reached ER g 0)) $$ Hr
  ihave Htok' := (Entails.of_eq bigSep_duties) $$ Htok
  unfold G; simp only [places_eq, bigSep_sep']
  isplitl [Hst']; · iexact Hst'
  isplitl [Hat']; · iexact Hat'
  isplitl [Hr']; · iexact Hr'
  iexact Htok'

/-! ## The schedules are made known -/

/-- The transfer semaphores are the kernel's own; -/
abbrev osem : DmaSem sig → SemLoc sig := .dma
/-- The transfer semaphores are distinct and are the ones that the launch hands over. -/
theorem ownSemFacts : Pipeline.OwnSemFacts cfg0.spec osem := ⟨by decide, fun _ _ h => SemLoc.dma.inj h, fun _ w => w.elim0⟩

/-- the barrier semaphore is the one beside them. -/
theorem bar_unscoped (c : Dev nD) : (unscopedSems0 c : sProp 𝕄) = semVal (barCell c) 0 := by
  unfold unscopedSems0; rw [bigSep_eq_bigSepL_of_eq [SemLoc.reg barS] (by decide) (by decide)]; rfl

/-- All semaphores of a device at zero. -/
theorem sems_zero (c : Dev nD) :
    (bigSep Finset.univ fun sm : SemLoc sig => (semVal ((c : Thread nD τ), sm) 0 : sProp 𝕄)) = iprop(unscopedSems0 c ∗ Pipeline.ownSems0 osem c) := by
  rw [bar_unscoped, bigSep_sems]; rfl

/-- Each semaphore of a device, at zero, is put under its schedule. -/
theorem cells_made (c : Dev nD) :
    iprop(Pipeline.ownSems0 osem c ∗ unscopedSems0 c ∗ G m c)
      ⊢ |={Set.univ}=> iprop((bigSep Finset.univ fun sm : SemLoc sig => iprop(∃ κ : ℕ, cellInv ER (sched m) κ ((c : Thread nD τ), sm)))
          ∗ places c 0 ∗ (bigSep Finset.univ fun sm : SemLoc sig => reached ER ((c : Thread nD τ), sm) 0) ∗ ownRights c) := by
  unfold G
  iintro ⟨Hos, Hus, Hst, Hrest⟩
  ihave Hv := (Entails.of_eq (sems_zero (F := F) c).symm) $$ [Hos Hus]
  · isplitl [Hus] <;> iassumption
  imod (show iprop((bigSep Finset.univ fun sm : SemLoc sig => semVal ((c : Thread nD τ), sm) 0)
        ∗ bigSep Finset.univ fun sm : SemLoc sig => roundState ER (sched m) ((c : Thread nD τ), sm) 0)
      ⊢ (|={Set.univ}=> bigSep Finset.univ fun sm : SemLoc sig => iprop(∃ κ : ℕ, cellInv ER (sched m) κ ((c : Thread nD τ), sm)) : sProp 𝕄) from by
        rw [← bigSep_sep']
        exact (bigSep_mono fun sm _ => (Rounds.body_intro ER (sched m) ((c : Thread nD τ), sm)).trans inv_alloc).trans (bigSep_fupd _ _)) $$ [Hv Hst] with Hinv
  · isplitl [Hv] <;> iassumption
  imodintro
  isplitl [Hinv] <;> iassumption

/-- What is known is gathered and shown to every device; the rights are dealt out. -/
theorem gather :
    (bigSep Finset.univ fun c : Dev nD => iprop((bigSep Finset.univ fun sm : SemLoc sig => iprop(∃ κ : ℕ, cellInv ER (sched m) κ ((c : Thread nD τ), sm)))
          ∗ places c 0 ∗ (bigSep Finset.univ fun sm : SemLoc sig => reached ER ((c : Thread nD τ), sm) 0) ∗ ownRights c) : sProp 𝕄)
      ⊢ bigSep Finset.univ (G' m) := by
  simp only [bigSep_sep']
  rw [← bigSep_univ_prod (fun x : Dev nD × SemLoc sig => (iprop(∃ κ : ℕ, cellInv ER (sched m) κ ((x.1 : Thread nD τ), x.2)) : sProp 𝕄)),
    ← bigSep_univ_prod (fun x : Dev nD × SemLoc sig => (reached ER ((x.1 : Thread nD τ), x.2) 0 : sProp 𝕄))]
  iintro ⟨HI, Hat, #HR, Htok⟩
  ihave HK := (bigSep_exists_pi Finset.univ (fun (x : Dev nD × SemLoc sig) (κ : ℕ) => (cellInv ER (sched m) κ ((x.1 : Thread nD τ), x.2) : sProp 𝕄))) $$ HI
  icases HK with ⟨%K, #HI⟩
  ihave Hr := (rights_dealt (F := F)) $$ Htok
  iapply (show iprop(records m K ∗ bigSep Finset.univ fun c : Dev nD => iprop(rights c ∗ places c 0)) ⊢ bigSep Finset.univ (G' m) from
    bigSep_with_persistent fun c _ => by unfold G'; iintro H; iexists K; iexact H)
  isplitr
  · unfold records; isplitl; · iexact HI
    iexact HR
  simp only [bigSep_sep']
  isplitl [Hr] <;> iassumption

/-- From the semaphores of all devices come the protocol records and each device's share of rights. -/
theorem glob : (bigSep Finset.univ fun c => iprop(Pipeline.ownSems0 osem c ∗ unscopedSems0 c ∗ G m c) : sProp 𝕄)
    ⊢ |={Set.univ}=> bigSep Finset.univ (G' m) :=
  ((bigSep_mono fun c _ => cells_made m c).trans (bigSep_fupd _ _)).trans (BI.fupd_mono (gather m))

/-! ## The credit -/

/-- A device is given the credit for what its neighbours owe it. -/
theorem credits_dealt (c : Dev nD) : (Pipeline.launchCred owed₀ c : sProp 𝕄) ⊢ credits c := by
  have hX (n : ℕ) : (Pipeline.launchCred (fun d => owedX d 0) c : sProp 𝕄) ⊢ all8 fun k => credOf c (.xr k) := by
    show (Pipeline.launchCred (fun d => ∑ k ∈ Finset.univ, tallyAt (cell (px d) (.xr k)) () (amt (.xr k))) c : sProp 𝕄) ⊢ _
    rw [Pipeline.launchCred_sum]
    exact bigSep_mono fun k _ => Pipeline.launchCred_tallyAt _ px px px_px px_px () _ c
  have hY : (Pipeline.launchCred (fun d => owedY d 0) c : sProp 𝕄) ⊢ all8 fun k => credOf c (.yr k) := by
    show (Pipeline.launchCred (fun d => ∑ k ∈ Finset.univ, tallyAt (cell (py d) (.yr k)) () (amt (.yr k))) c : sProp 𝕄) ⊢ _
    rw [Pipeline.launchCred_sum]
    exact bigSep_mono fun k _ => Pipeline.launchCred_tallyAt _ py py py_py py_py () _ c
  show (Pipeline.launchCred (fun d => owedY d 0 + owedX d 0 + tallyAt (barCell (py d)) () 1 + tallyAt (barCell (px d)) () 1) c : sProp 𝕄) ⊢ _
  rw [Pipeline.launchCred_add, Pipeline.launchCred_add, Pipeline.launchCred_add]
  unfold credits
  iintro ⟨⟨⟨HY, HX⟩, Hby⟩, Hbx⟩
  isplitl [Hby Hbx]
  · iapply (show iprop(Pipeline.launchCred (fun d => tallyAt (barCell (py d)) () 1) c ∗ Pipeline.launchCred (fun d => tallyAt (barCell (px d)) () 1) c)
        ⊢ (cred (tallyAt (barCell c) () 2) : sProp 𝕄) from
      (BI.sep_mono (Pipeline.launchCred_tallyAt _ py py py_py py_py () 1 c) (Pipeline.launchCred_tallyAt _ px px px_px px_px () 1 c)).trans
        (BIBase.Entails.trans (cred_add _ _).2 (Entails.of_eq (congrArg cred (tallyAt_add _ _ 1 1)))))
    isplitl [Hby] <;> iassumption
  isplitl [HX]
  · iapply (hX 0); iexact HX
  · iapply hY; iexact HY

end Cert.KernelIdeal.Hand

end
-- ==== Proof.KernelIdeal.Launch.lean ====
/-
# The run of the four devices

From what each device is dealt, through its kernel, to the memory all of them leave.
-/
module

public import proofs.«01_k».proof.Proof.KernelIdeal.Ghost
public import Idealize.ShloMosaic.Lib.Pipeline.CollectiveSegs

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-- The buffer of the scale on device `c`. -/
abbrev gaLoc (c : Dev nD) : Loc nD τ sig := (c : Thread nD τ).loc main_arg1

/-! ## Before and after the kernel of one device -/

/-- What device `c` is dealt: its rights and places, its credit, the order of waiting, the arguments and the result's buffer. -/
def start (c : Dev nD) : sProp 𝕄 :=
  iprop(G' m c ∗ credits c ∗ levAts L lv
    ∗ (inLoc c ↦{fullShare} m (inLoc c)) ∗ (gaLoc c ↦{fullShare} m (gaLoc c)) ∗ (outLoc c ↦{fullShare} m (outLoc c)))

/-- What it leaves in the memory that lasts: the arguments as they were, and the result. -/
def left (c : Dev nD) : sProp 𝕄 :=
  iprop((inLoc c ↦{fullShare} m (inLoc c)) ∗ (gaLoc c ↦{fullShare} m (gaLoc c)) ∗ ∃ f, ⌜Done m c f⌝ ∗ outLoc c ↦{fullShare} f)

/-- Before the kernel: that, and the scratch buffers. -/
def Φ₀ (c : Dev nD) : sProp 𝕄 := iprop(start m c ∗ Pipeline.scopedRest cfg0.spec c)
/-- After it: what it leaves, every semaphore at zero, and the scratch buffers. -/
def Φ₁ (c : Dev nD) : sProp 𝕄 :=
  iprop(left m c ∗ (bigSep Finset.univ fun sm : SemLoc sig => semVal ((c : Thread nD τ), sm) 0) ∗ Pipeline.scopedRest cfg0.spec c)

/-- The launch of the kernel: no window, one point. -/
def dats (_ : Fin 1) (c : Dev nD) : Dat τ (Elt F) Unit ℕ UU ℕ cfg0 c where
  A w := w.elim0
  after w := w.elim0
  Φ t := match t with
    | ⟨0, _⟩ => Φ₀ m c
    | ⟨_ + 1, _⟩ => Φ₁ m c
  q _ := fullShare
  owed t := match t with
    | ⟨0, _⟩ => owed₀ c
    | ⟨_ + 1, _⟩ => 0

/-- The memory the kernel asks for, out of the buffers. -/
theorem memory_in (c : Dev nD) :
    iprop((inLoc c ↦{fullShare} m (inLoc c)) ∗ (gaLoc c ↦{fullShare} m (gaLoc c)) ∗ (outLoc c ↦{fullShare} m (outLoc c)) ∗ Pipeline.scopedRest cfg0.spec c)
      ⊢ (iprop(memIn m c ∗ inRest m c) : sProp 𝕄) := by
  rw [scopedRest0_eq]
  iintro ⟨Hin, Hga, Hout, H0, H1, H2, H3, H4, H5⟩
  ihave Hin' := (cut_in m c) $$ Hin
  icases Hin' with ⟨Hin, Hrest⟩
  unfold memIn
  isplitr [Hrest]
  · isplitl [Hin]; · iexact Hin
    isplitl [Hga]; · iapply (Entails.of_eq (owns_whole (c : Thread nD τ) main_arg1 fullShare (m (gaLoc c))).symm); iexact Hga
    isplitl [Hout]; · iapply (cut_out c (m (outLoc c))); iexact Hout
    isplitl [H0]; · iapply ((whole_at c cc0_scratch0).trans (cut8 c pqM)); iexact H0
    isplitl [H1]; · iapply (whole_at c cc0_scratch1); iexact H1
    isplitl [H2]; · iapply (whole_at c cc0_scratch2); iexact H2
    isplitl [H3]; · iapply ((whole_at c cc0_scratch3).trans (cut8 c xsM)); iexact H3
    isplitl [H4]; · iapply ((whole_at c cc0_scratch4).trans (cut8 c xrM)); iexact H4
    iapply ((whole_at c cc0_scratch5).trans (cut8 c ovM)); iexact H5
  · iexact Hrest

/-- The buffers, out of the memory the kernel gives back. -/
theorem memory_out (c : Dev nD) :
    iprop(memOut m c ∗ inRest m c) ⊢ (iprop(left m c ∗ Pipeline.scopedRest cfg0.spec c) : sProp 𝕄) := by
  rw [scopedRest0_eq]
  unfold memOut left
  iintro ⟨⟨Hin, Hga, Hout, H0, H1, H2, H3, H4, H5⟩, Hrest⟩
  isplitl [Hin Hga Hout Hrest]
  · isplitl [Hin Hrest]
    · iapply (join_in m c)
      isplitl [Hin] <;> iassumption
    isplitl [Hga]; · iapply (Entails.of_eq (owns_whole (c : Thread nD τ) main_arg1 fullShare (m (gaLoc c)))); iexact Hga
    iapply (join_out m c); iexact Hout
  isplitl [H0]; · iapply ((join8 c pqM _).trans (at_whole c cc0_scratch0 _)); iexact H0
  isplitl [H1]; · iapply ((join8 c mqM _).trans (at_whole c cc0_scratch1 _)); iexact H1
  isplitl [H2]; · iapply (at_whole c cc0_scratch2 _); iexact H2
  isplitl [H3]; · iapply ((join8 c xsM _).trans (at_whole c cc0_scratch3 _)); iexact H3
  isplitl [H4]; · iapply ((join8 c xrM _).trans (at_whole c cc0_scratch4 _)); iexact H4
  iapply (at_whole c cc0_scratch5 _); iexact H5

/-- The rounds over, every semaphore of the device is at zero. -/
theorem cells_closed (K : Dev nD × SemLoc sig → ℕ) (c : Dev nD) :
    iprop(records m K ∗ places c 1) ⊢ |={Set.univ}=> (bigSep Finset.univ fun sm : SemLoc sig => (semVal ((c : Thread nD τ), sm) 0 : sProp 𝕄)) := by
  rw [places_eq]
  refine BIBase.Entails.trans (bigSep_with_persistent (Ψ := fun sm : SemLoc sig => (iprop(|={Set.univ}=> semVal ((c : Thread nD τ), sm) 0) : sProp 𝕄)) fun sm _ => ?_) (bigSep_fupd _ _)
  exact (sep_mono_left (records_inv m K c sm)).trans
    (Rounds.cell_close ER (sched m) (Set.mem_univ _) (fun h => h) (R := 1) (duties_later m _))

/-! ## The kernel of one device, as the launch asks for it -/

/-- What is left when the kernel is done, its semaphores closed. -/
theorem kernel_end (K : Dev nD × SemLoc sig → ℕ) (c : Dev nD) :
    iprop((places c 1 ∗ memOut m c ∗ owing c 0) ∗ (inRest m c ∗ records m K)) ⊢ (iprop(|={Set.univ}=> (Φ₁ m c ∗ owing c 0)) : sProp 𝕄) := by
  unfold Φ₁
  iintro ⟨⟨Hpl, Hm, HO⟩, Hrest, HR⟩
  ihave Hm' := (memory_out m c) $$ [Hm Hrest]
  · isplitl [Hm] <;> iassumption
  icases Hm' with ⟨Hleft, Hsc⟩
  imod (cells_closed m K c) $$ [HR Hpl] with Hz
  · isplitl [HR] <;> iassumption
  imodintro
  isplitr [HO]
  · isplitl [Hleft]; · iexact Hleft
    isplitl [Hz] <;> iassumption
  iexact HO

/-- A run, what it leaves turned into what is wanted by one update, with what it leaves alone. -/
theorem run_end {α : Type} (c : Dev nD) {p : KProg (F := F) α} {P R : sProp 𝕄} {Q Q' : α → sProp 𝕄}
    (hp : P ⊢ runs c p Q') (hQ : ∀ a, iprop(Q' a ∗ R) ⊢ iprop(|={Set.univ}=> Q a)) : iprop(P ∗ R) ⊢ runs c p Q := by
  unfold runs at *
  exact (((sep_mono_left hp).trans (wp_frame_r _ _ _)).trans (wp_mono _ _ _ hQ)).trans (wp_fupd _ _ _ p Q)

/-- The kernel of device `c` from what it is dealt to what it leaves. -/
theorem kernel_run (c : Dev nD) :
    iprop(Φ₀ m c ∗ owing c (owed₀ c)) ⊢ runs c (chunked (F := F)) fun _ => iprop(Φ₁ m c ∗ owing c 0) := by
  have hK (K : Dev nD × SemLoc sig → ℕ) :
      iprop((known m K ∗ rights c ∗ places c 0 ∗ credits c ∗ memIn m c ∗ owing c (owed₀ c)) ∗ (inRest m c ∗ records m K))
        ⊢ runs c (chunked (F := F)) fun _ => iprop(Φ₁ m c ∗ owing c 0) :=
    run_end c (body_run m K c) fun _ => kernel_end m K c
  unfold Φ₀ start G'
  iintro ⟨⟨⟨⟨%K, #HR, Hri, Hpl⟩, Hcr, #HL, Hin, Hga, Hout⟩, Hsc⟩, HO⟩
  ihave Hm := (memory_in m c) $$ [Hin Hga Hout Hsc]
  · isplitl [Hin]; · iexact Hin
    isplitl [Hga]; · iexact Hga
    isplitl [Hout] <;> iassumption
  icases Hm with ⟨Hm, Hrest⟩
  iapply (hK K)
  isplitr [Hrest]
  · isplitr
    · unfold known; isplitr; · iexact HR
      iexact HL
    isplitl [Hri]; · iexact Hri
    isplitl [Hpl]; · iexact Hpl
    isplitl [Hcr]; · iexact Hcr
    isplitl [Hm] <;> iassumption
  isplitl [Hrest]; · iexact Hrest
  iexact HR

/-- The launch has no window. -/
theorem no_window (Ψ : Fin cfg0.W → sProp 𝕄) : bigSep Finset.univ Ψ = BI.emp := by
  rw [show (Finset.univ : Finset (Fin cfg0.W)) = ∅ from rfl, BI.bigSep_empty]

/-- The launch runs the kernel. -/
theorem body_is (t : Fin cfg0.N) : defs₀ (F := F) .tc cfg0.body (cfg0.bodyArgs t (cfg0.slots t)) = chunked (F := F) :=
  (show _ = bodyAt0 (F := F) t from rfl).trans (body_eq_chunked t)

set_option maxRecDepth 8000 in
/-- What the launch asks of the kernel. -/
theorem body_obligation (c : Dev nD) : BodyObligation (dats m 0 c) (defs₀ (F := F)) 𝒱₀ () Set.univ := fun t => by
  rw [fin_N0 t, no_window, no_window, body_is]
  show iprop(Φ₀ m c ∗ (∃ W, ⌜↑W ⊆ (dats m 0 c).bound () t0_0.castSucc⌝ ∗ owes (c : Thread nD τ) (owed₀ c) W) ∗ BI.emp)
    ⊢ runs c (chunked (F := F)) fun _ => iprop(Φ₁ m c ∗ (∃ W, ⌜↑W ⊆ (dats m 0 c).bound () t0_0.succ⌝ ∗ owes (c : Thread nD τ) 0 W) ∗ BI.emp)
  refine BIBase.Entails.trans ?_ ((kernel_run m c).trans (wp_mono _ _ _ fun _ => ?_))
  · unfold owing
    iintro ⟨H, ⟨%W, -, HO⟩, -⟩
    isplitl [H]; · iexact H
    iexists W; iexact HO
  · unfold owing
    iintro ⟨H, %W, HO⟩
    isplitl [H]; · iexact H
    isplitl
    · iexists W
      isplitr; · ipureintro; exact fun _ _ => Or.inl trivial
      iexact HO
    iempintro

/-! ## The launch of all -/

/-- What is read of the final memory on device `c`. -/
def Final (c : Dev nD) (s : MemSt nD τ sig (Elt F)) : Prop :=
  s.mem (inLoc c) = m (inLoc c) ∧ s.mem (gaLoc c) = m (gaLoc c) ∧ Done m c (s.mem (outLoc c))

/-- Each device sorts what it is dealt. -/
theorem start_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ G' m c)
      ⊢ |={Set.univ}=> iprop(start m c ∗ emp) := by
  rw [show Pipeline.unscopedRestP (Ix := Unit) (Name := ℕ) (U := UU) (Lvl := ℕ) Pipeline.Prefetch.none cfg0.spec c (fun b => m ((c : Thread nD τ).loc b))
    = Pipeline.unscopedRest cfg0.spec c (fun b => m ((c : Thread nD τ).loc b)) from Pipeline.unscopedRestP_none _ _ _, unscopedRest0_eq]
  iintro ⟨Hmem, Hlev, Hcr, -, HG⟩
  imodintro
  unfold start
  isplitl
  · isplitl [HG]; · iexact HG
    isplitl [Hcr]; · iapply (credits_dealt c); iexact Hcr
    isplitl [Hlev] <;> iassumption
  · iempintro

/-- The final memory read. -/
theorem final_read (c : Dev nD) (s' : Phys nD τ sig (Elt F)) :
    iprop((left m c ∗ unscopedSems0 c) ∗ emp ∗ SI s')
      ⊢ (|={Set.univ}=> iprop(⌜Final m c s'.mem ∧ ∀ sm : SemLoc sig, sm.isScoped .tc = false → s'.mem.sem ((c.tc : Thread nD τ), sm) = 0⌝ ∗ SI s') : sProp 𝕄) := by
  unfold left
  iintro ⟨⟨⟨Hin, Hga, %f, %hf, Hout⟩, Hu⟩, -, HSI⟩
  icombine HSI Hin gives %hin
  icombine HSI Hga gives %hga
  icombine HSI Hout gives %hout
  imod (Pipeline.unscopedSems0_read (X := unscopedSems0 c) (c := c) fupd_intro s') $$ [Hu HSI] with ⟨%hu, HSI⟩
  · isplitl [Hu] <;> iassumption
  imodintro
  isplitr
  · ipureintro
    refine ⟨⟨Buf.eq_of_forall_mem_univ hin, Buf.eq_of_forall_mem_univ hga, ?_⟩, hu⟩
    rw [Buf.eq_of_forall_mem_univ hout]; exact hf
  · iexact HSI

set_option maxRecDepth 8000 in
/-- From any memory with all semaphores at zero the four devices come to an end, and then every device has its
    arguments as they were and the result read as the rows each device computed, and all semaphores are at zero. -/
theorem run_main : θ_run defs (onTc (τ := τ) (main (F := F))) ⟨m, fun _ => 0, ρ⟩ (fun r => (∀ c, Final m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := fun _ w => w.elim0)
    (hdistinct := winFacts0.arr_inj)
    (O₀ := owed₀) (howed₀ := fun _ => rfl) (howedN := fun _ => rfl)
    (L := L) (lv := lv) (hL := L_of_ne) (hwaits := fun c => Pipeline.cellsWaits_intro cfgs (dats m) () 0 c fun w => w.elim0)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ w => w.elim0) (hpf := fun _ k => k.elim0)
    (X := start m) (Y := fun c => iprop(left m c ∗ unscopedSems0 c)) (Z := fun _ => iprop(emp))
    (hX := start_intro m ρ)
    (hin := fun c => show _ ⊢ Φ₀ m c from by
      unfold Φ₀
      iintro ⟨Hs, -, Hr⟩
      isplitl [Hs] <;> iassumption)
    (hout := fun c => show Φ₁ m c ⊢ _ from by
      unfold Φ₁
      rw [sems_zero]
      iintro ⟨Hl, ⟨Hu, Ho⟩, Hr⟩
      isplitl [Hl Hu]
      · isplitl [Hl] <;> iassumption
      isplitl [Ho] <;> iassumption)
    (QY := fun c s => Final m c s ∧ ∀ sm : SemLoc sig, sm.isScoped .tc = false → s.sem ((c.tc : Thread nD τ), sm) = 0)
    (hY := final_read m)
    (hQ := fun _ h hs => ⟨fun c => (h c).2.2.1, sem_eq_zero hs fun c => (h c).2.2.2⟩)

end Cert.KernelIdeal.Hand

end
-- ==== Proof.Value.Rows.lean ====
/-
# A normalised row over the extended reals

The kernel multiplies a row by the reciprocal square root of its mean square plus a small constant; the
reference divides by the square root. The mean of squares is never negative and the constant is positive, so
the two agree, infinite entries included.
-/
module

public import proofs.«01_k».proof.Proof.KernelIdeal.Launch
public import proofs.«01_k».proof.Proof.Gen.ReferenceIdeal.Run
public import Idealize.ShloMosaic.Lib.IdealHost
public import Idealize.ShloMosaic.Lib.ValueLayoutCasts
public import Idealize.ShloMosaic.Lib.LayoutAt

@[expose] public section

noncomputable section

namespace Cert.Hand

open Idealize.ShloMosaic Idealize.ShloMosaic.ValueIdx
open scoped BigOperators

/-! ## Scalars -/

/-- A square is not negative, infinities included. -/
theorem square_nonneg (y : EReal) : 0 ≤ y * y := by
  rcases le_total 0 y with h | h
  · exact mul_nonneg h h
  · exact EReal.mul_nonneg_iff.mpr (.inr ⟨h, h⟩)

/-- The divisor of the mean is the real 512. -/
theorem bits_512 : Ideal.ofBits .f32 0x44000000#32 = ((512 : ℝ) : EReal) := by
  simp [Ideal.ofBits, Ideal.ieee, -EReal.coe_mul]; norm_num

/-- The constant added to the mean is positive. -/
theorem bits_eps : 0 < Ideal.ofBits .f32 0x358637BD#32 := by
  simp [Ideal.ofBits, Ideal.ieee, -EReal.coe_mul]

/-- The mean of squares plus the constant. -/
def scale (y : Fin 512 → EReal) : EReal :=
  Ideal.div (∑ k, y k * y k) (Ideal.ofBits .f32 0x44000000#32) + Ideal.ofBits .f32 0x358637BD#32

/-- It is positive. -/
theorem scale_pos (y : Fin 512 → EReal) : 0 < scale y := by
  have hs : (0 : EReal) ≤ ∑ k, y k * y k := Finset.sum_nonneg fun k _ => square_nonneg (y k)
  have hd : 0 ≤ Ideal.div (∑ k, y k * y k) (Ideal.ofBits .f32 0x44000000#32) := by
    rw [bits_512, Ideal.div, if_neg (by norm_num), ← EReal.coe_inv]
    exact mul_nonneg hs (EReal.coe_nonneg.mpr (by norm_num))
  exact lt_of_lt_of_le bits_eps (le_add_of_nonneg_left hd)

/-- Multiplying by the reciprocal square root of a positive number is dividing by its square root. -/
theorem mul_rsqrt (y : EReal) {z : EReal} (hz : 0 < z) : y * Ideal.rsqrt z = Ideal.div y (Ideal.sqrt z) := by
  induction z with
  | bot => exact absurd hz (by simp)
  | top =>
    have h1 : Ideal.rsqrt ⊤ = 0 := rfl
    have h2 : Ideal.sqrt ⊤ = ⊤ := rfl
    rw [h1, h2, Ideal.div, if_neg (by simp), EReal.inv_top]
  | coe r =>
    have hr : 0 < r := EReal.coe_pos.mp hz
    have hs : ((Real.sqrt r : ℝ) : EReal) ≠ 0 := fun e => (Real.sqrt_pos.mpr hr).ne' (EReal.coe_eq_zero.mp e)
    have h1 : Ideal.rsqrt (r : EReal) = ((Real.sqrt r)⁻¹ : ℝ) := (if_neg hr.not_gt).trans (if_neg hr.ne')
    have h2 : Ideal.sqrt (r : EReal) = (Real.sqrt r : ℝ) := if_neg hr.not_gt
    rw [h1, h2, Ideal.div, if_neg hs, EReal.coe_inv]

/-- Entry `j` of the normalised row `y`, scaled by `g`. -/
def entry (y : Fin 512 → EReal) (g : EReal) (j : Fin 512) : EReal :=
  Ideal.div (y j) (Ideal.sqrt (scale y)) * g

/-! ## The kernel's rows -/

section Kernel

open Cert.KernelIdeal Cert.KernelIdeal.Gen Cert.KernelIdeal.Hand

/-- One chunk of the kernel's result, entry by entry. -/
theorem normed_at (g : Vec Ideal S512 .f32) (a : Vec Ideal S32x512 .f32) (b : Vec Ideal S32x512 .bf16) (i : Fin 32) (j : Fin 512) :
    normed g a b (ix2 i j) = entry (fun k => a (ix2 i k) + b (ix2 i k)) (g (ix1 j)) j := by
  unfold normed k0_pay14 k0_pay10
  simp only [shapeCast_self]
  rw [truncf_apply, mulf_apply, mulf_apply, addf_apply, extf_apply,
    broadcastTo_1b_ab_apply, shapeCast_a_1a_apply,
    broadcastTo_apply _ _ _ (ix2 i (0 : Fin 1)) (fun ax => by fin_cases ax <;> rfl)]
  rw [entry, ← mul_rsqrt _ (scale_pos _)]
  refine congrArg (fun t => (a (ix2 i j) + b (ix2 i j)) * Ideal.rsqrt t * g (ix1 j)) ?_
  rw [addf_apply, divf_apply, shapeCast_a_a1_apply]
  have hl (k : Fin 512) : reduces_S32x512_S32.lift (ix1 i) k = ix2 i k := by
    funext ax; fin_cases ax <;> rfl
  exact congrArg (fun t => Ideal.div t _ + _) ((Ideal.multiReduction_add_single _ _ _ _ _ _).trans
    (Finset.sum_congr rfl fun k _ => congrArg (fun t => (a t + b t) * (a t + b t)) (hl k)))

end Kernel

/-! ## The reference's rows -/

section Reference

open Cert.ReferenceIdeal Cert.ReferenceIdeal.Gen

/-- The sum over the two partial sums. -/
def total (p : FVec Ideal S2x1024x512 .f32) : FVec Ideal S1024x512 .f32 :=
  Host.reduceAdd p (constant S_ .f32 0x00000000#32) reducesTo_S2x1024x512_S1024x512_d0 h_S_

/-- Row `R` of it is the sum of the two rows. -/
theorem total_at (p : FVec Ideal S2x1024x512 .f32) (R : Fin 1024) (j : Fin 512) :
    total p (ix2 R j) = p (ix3 (0 : Fin 2) R j) + p (ix3 (1 : Fin 2) R j) := by
  have hr : S2x1024x512.Reduces [0] S1024x512 := by decide
  have hl (k : Fin 2) : hr.lift (ix2 R j) k = ix3 k R j := by
    funext ax; fin_cases ax <;> rfl
  unfold total
  rw [hostReduceAdd_apply, Ideal.hostReduceAdd_single _ hr, constant_apply]
  refine (congrArg₂ (· + ·) ?_ (Fin.sum_univ_two _)).trans (zero_add _ |>.trans ?_)
  · simp [Ideal.ofBits, Ideal.ieee]
  · rw [hl, hl]

/-- The reference's result as one term of its arguments. -/
def refOut (p : FVec Ideal S2x1024x512 .f32) (g : FVec Ideal S512 .f32) : FVec Ideal S1024x512 .bf16 :=
  truncf .bf16 (mulf (Host.divf (total p) (broadcastInDim S1024x512 ![0, 1] bcast_S1024x1_S1024x512_0_1
    (Host.sqrt (addf (Host.divf (broadcastInDim S1024x1 ![0] bcast_S1024_S1024x1_0
        (Host.reduceAdd (mulf (total p) (total p)) (constant S_ .f32 0x00000000#32) reducesTo_S1024x512_S1024_d1 h_S_))
        (broadcastInDim S1024x1 ![] bcast_S_S1024x1 (constant S_ .f32 0x44000000#32)))
      (broadcastInDim S1024x1 ![] bcast_S_S1024x1 (constant S_ .f32 0x358637BD#32))))))
    (broadcastInDim S1024x512 ![0, 1] bcast_S1x512_S1024x512_0_1 (broadcastInDim S1x512 ![1] bcast_S512_S1x512_1 g)))
    bitsLt_bf16_f32

/-- The reference's result, entry by entry. -/
theorem refOut_at (p : FVec Ideal S2x1024x512 .f32) (g : FVec Ideal S512 .f32) (R : Fin 1024) (j : Fin 512) :
    refOut p g (ix2 R j) = entry (fun k => p (ix3 (0 : Fin 2) R k) + p (ix3 (1 : Fin 2) R k)) (g (ix1 j)) j := by
  have hr : S1024x512.Reduces [1] S1024 := by decide
  have hl (k : Fin 512) : hr.lift (ix1 R) k = ix2 R k := by
    funext ax; fin_cases ax <;> rfl
  unfold refOut
  rw [truncf_apply, mulf_apply, hostDivf_apply, total_at,
    broadcastInDim_apply _ bcast_S1x512_S1024x512_0_1 _ _ (ix2 (0 : Fin 1) j) (fun ax => by fin_cases ax <;> rfl),
    broadcastInDim_apply _ bcast_S512_S1x512_1 _ _ (ix1 j) (fun ax => by fin_cases ax <;> rfl),
    broadcastInDim_apply _ bcast_S1024x1_S1024x512_0_1 _ _ (ix2 R (0 : Fin 1)) (fun ax => by fin_cases ax <;> rfl)]
  refine congrArg (fun t => Ideal.div (p (ix3 (0 : Fin 2) R j) + p (ix3 (1 : Fin 2) R j)) (Ideal.sqrt t) * g (ix1 j)) ?_
  rw [addf_apply, hostDivf_apply, broadcastInDim_scalar_apply, broadcastInDim_scalar_apply,
    broadcastInDim_apply _ bcast_S1024_S1024x1_0 _ _ (ix1 R) (fun ax => by fin_cases ax; rfl),
    hostReduceAdd_apply, Ideal.hostReduceAdd_single _ hr]
  refine congrArg (fun t => Ideal.div t _ + _) ((congrArg₂ (· + ·) ?_ (Finset.sum_congr rfl fun k _ => ?_)).trans (zero_add _))
  · rw [constant_apply]; simp [Ideal.ofBits, Ideal.ieee]
  · exact (congrArg (fun t => total p t * total p t) (hl k)).trans (congrArg (fun t => t * t) (total_at p R k))

end Reference

end Cert.Hand

end
-- ==== Proof.Value.Reads.lean ====
/-
# Where the kernel's chunks lie in the arrays

Chunk by chunk, the kernel's windows are read at their rows of the two partial sums and of the result.
-/
module

public import proofs.«01_k».proof.Proof.Value.Rows

@[expose] public section

noncomputable section

namespace Cert.Hand

open Idealize.ShloMosaic Idealize.ShloMosaic.ValueIdx Idealize.ShloMosaic.TcCoe
open Cert.KernelIdeal Cert.KernelIdeal.Gen Cert.KernelIdeal.Hand

variable (m : (ℓ : Loc nD τ sig) → Buf (Elt Ideal) ℓ) (c : Dev nD)

/-- The partial sums on device `c`, as an array. -/
def part (c : Dev nD) : FVec Ideal S1x1024x512 .f32 := m (inLoc c)

/-- An index of a rectangle of unit stride lies at the offset plus the index. -/
theorem unit_emb_val {s : Shape} {off o : Fin s.rank → ℕ} (ho : off = o) {size : Fin s.rank → ℕ} (inb : ∀ a, off a + size a ≤ s.size a)
    (x : (Rect.unit off size inb).shape.Idx) (a : Fin s.rank) : ((Rect.unit off size inb).emb x a).val = o a + (x a).val := by
  subst ho
  exact congrArg (off a + ·) (Nat.one_mul _)

/-- A chunk to send is read at its rows of the partial sums. -/
theorem inV_at (k : Fin 8) (i : Fin 32) (j : Fin 512) (R : Fin 1024)
    (hR : R.val = (256 * (c.val % 2) + 32 * k.val + 512) - 512 * (c.val / 2) + i.val) :
    inV m c k (ix2 i j) = part m c (ix3 (0 : Fin 1) R j) := by
  refine congrArg (part m c) (a₁ := (Rect.unit (s := S1x1024x512) (k0_off1 c (BitVec.ofNat 32 (32 * k.val))) S1x32x512.size
    (k0_off1_inb c k)).emb (Shape.reshapeEquiv _ (ix2 i j))) ?_
  rw [reshapeEquiv_ix2_1ab]
  funext ax
  apply Fin.ext
  rw [unit_emb_val (k0_off1_eq c k)]
  fin_cases ax
  · rfl
  · exact hR.symm
  · exact Nat.zero_add _

/-- Row `i` of chunk `k` is row `32 k + i` of a buffer of 256 rows. -/
theorem cRect_emb (k : Fin 8) (i : Fin 32) (j : Fin 512) : (cRect k).emb (ix2 i j) = ix2 (⟨32 * k.val + i.val, by omega⟩ : Fin 256) j := by
  funext ax
  apply Fin.ext
  rw [unit_emb_val rfl]
  fin_cases ax
  · rfl
  · exact Nat.zero_add _

/-- The own rows are read likewise. -/
theorem mineK_at (k : Fin 8) (i : Fin 32) (j : Fin 512) (R : Fin 1024)
    (hR : R.val = 512 * (c.val / 2) + 256 * (c.val % 2) + (32 * k.val + i.val)) :
    mineK m c k (ix2 i j) = part m c (ix3 (0 : Fin 1) R j) := by
  refine congrArg (part m c) (a₁ := (Rect.unit (s := S1x1024x512) (k0_off2 c) S1x256x512.size
    (k0_off2_inb c)).emb (Shape.reshapeEquiv _ ((cRect k).emb (ix2 i j)))) ?_
  rw [cRect_emb, reshapeEquiv_ix2_1ab]
  funext ax
  apply Fin.ext
  rw [unit_emb_val (k0_off2_eq c)]
  fin_cases ax
  · rfl
  · exact hR.symm
  · exact Nat.zero_add _

/-! ## The result's rows -/

variable (p : FVec Ideal Cert.ReferenceIdeal.S2x1024x512 .f32) (g : FVec Ideal S512 .f32)

/-- What the arguments are: each device holds one of the two partial sums, and the scale. -/
def Given : Prop := ∀ c : Dev nD,
  (∀ (R : Fin 1024) (j : Fin 512), part m c (ix3 (0 : Fin 1) R j) = p (ix3 (⟨c.val / 2, by have := c.isLt; simp only [nD] at this; omega⟩ : Fin 2) R j))
    ∧ gamV m c = g

/-- The device of the same column pair is in the other row of the mesh, at the same place in it. -/
theorem px_half : (px c).val / 2 = 1 - c.val / 2 ∧ (px c).val % 2 = c.val % 2 := by revert c; decide

/-- The device of the other half is in the same row of the mesh. -/
theorem py_pair : (py c).val / 2 = c.val / 2 := by revert c; decide

/-- Chunk `k` on device `d` is the reference's rows there. -/
theorem yv_at (h : Given m p g) (k : Fin 8) (i : Fin 32) (j : Fin 512) (R : Fin 1024)
    (hR : R.val = 512 * (c.val / 2) + 256 * (c.val % 2) + (32 * k.val + i.val)) :
    yv m c k (ix2 i j) = refOut p g (ix2 R j) := by
  obtain ⟨hx, hy⟩ := px_half c
  have hc : c.val < 4 := c.isLt
  have hrow (l : Fin 512) : mineK m c k (ix2 i l) + xv m (px c) k (ix2 i l) = p (ix3 (0 : Fin 2) R l) + p (ix3 (1 : Fin 2) R l) := by
    have hsent : xv m (px c) k (ix2 i l) = inV m (px c) k (ix2 i l) := by
      unfold xv packed k0_pay3
      simp only [shapeCast_self]
      rfl
    rw [hsent, mineK_at m c k i l R hR, inV_at m (px c) k i l R (by rw [hx, hy]; omega), (h c).1, (h (px c)).1]
    obtain e | e : c.val / 2 = 0 ∨ c.val / 2 = 1 := by omega
    · exact congrArg₂ (fun a b => p (ix3 a R l) + p (ix3 b R l)) (Fin.ext e) (Fin.ext (show (px c).val / 2 = _ by rw [hx, e]; rfl))
    · exact (congrArg₂ (fun a b => p (ix3 a R l) + p (ix3 b R l)) (Fin.ext e) (Fin.ext (show (px c).val / 2 = _ by rw [hx, e]; rfl))).trans (add_comm _ _)
  unfold yv
  rw [normed_at, refOut_at, (h c).2]
  exact congrArg (fun y => entry y (g (ix1 j)) j) (funext hrow)

/-- A device that has finished holds its half of the reference's rows. -/
theorem done_at (h : Given m p g) (f : Buf (Elt Ideal) (outLoc c)) (hf : Done m c f) (i j : Fin 512) (R : Fin 1024)
    (hR : R.val = 512 * (c.val / 2) + i.val) : (f : FVec Ideal S512x512 .bf16) (ix2 i j) = refOut p g (ix2 R j) := by
  have hc : c.val < 4 := c.isLt
  have hq := py_pair c
  have hp := py_half c
  let k : Fin 8 := ⟨i.val % 256 / 32, by omega⟩
  let r : Fin 32 := ⟨i.val % 32, by omega⟩
  have hkr : 32 * k.val + r.val = i.val % 256 := by
    show 32 * (i.val % 256 / 32) + i.val % 32 = _
    omega
  by_cases hi : i.val / 256 = c.val % 2
  · refine Eq.trans ?_ (yv_at m c p g h k r j R (by omega))
    refine Eq.trans ?_ (congrFun (yAll_emb m c k) (ix2 r j))
    refine Eq.trans ?_ (congrFun hf.1 ((cRect k).emb (ix2 r j)))
    refine congrArg (f : FVec Ideal S512x512 .bf16) (a₂ := (Rect.unit (s := S512x512) (k0_off4 c) S256x512.size (k0_off4_inb c)).emb ((cRect k).emb (ix2 r j))) ?_
    rw [cRect_emb]
    funext ax
    apply Fin.ext
    refine Eq.trans ?_ (unit_emb_val (k0_off4_eq c) _ _ _).symm
    fin_cases ax
    · show i.val = 256 * (c.val % 2) + (32 * k.val + r.val)
      omega
    · exact (Nat.zero_add _).symm
  · refine Eq.trans ?_ (yv_at m (py c) p g h k r j R (by rw [hq, hp]; omega))
    refine Eq.trans ?_ (congrFun (hf.2 k) (ix2 r j))
    refine congrArg (f : FVec Ideal S512x512 .bf16) (a₂ := (Rect.unit (s := S512x512) (k0_off3 (py c) (BitVec.ofNat 32 (32 * k.val))) S32x512.size (k0_off3_inb (py c) k)).emb (ix2 r j)) ?_
    funext ax
    apply Fin.ext
    refine Eq.trans ?_ (unit_emb_val (k0_off3_eq (py c) k) _ _ _).symm
    fin_cases ax
    · show i.val = 256 * ((py c).val % 2) + 32 * k.val + r.val
      omega
    · exact (Nat.zero_add _).symm

/-- Device `c`'s place among the two blocks an array is cut into. -/
theorem mesh_row : Layout.meshLin [2, 2] c.val [0] = c.val / 2 := by revert c; decide

/-- The claim's layout of the arguments gives each device its partial sum. -/
theorem given_of_layout
    (h : ∀ c : Dev nD, m (inLoc c) = Layout.blockN ⟨3, ![1, 1024, 512]⟩ ⟨3, ![2, 1024, 512]⟩ (Layout.meshBlock [2, 2] ![[0], [], []] c) p ∧ m (gaLoc c) = g) :
    Given m p g := fun c => ⟨fun R j => by
  refine (congrFun (h c).1 (ix3 (0 : Fin 1) R j)).trans ?_
  rw [Layout.blockN_apply]
  refine congrArg p (funext fun ax => Fin.ext ?_)
  rw [Layout.TilesN.idx_val]
  fin_cases ax
  · show Layout.meshLin [2, 2] c.val [0] * 1 + 0 = c.val / 2
    rw [mesh_row]; omega
  · show 0 * 1024 + R.val = R.val
    omega
  · show 0 * 512 + j.val = j.val
    omega, (h c).2⟩

/-- A device that has finished holds its block of the reference's result. -/
theorem done_block (h : Given m p g) (f : Buf (Elt Ideal) (outLoc c)) (hf : Done m c f) :
    f = Layout.blockN ⟨2, ![512, 512]⟩ ⟨2, ![1024, 512]⟩ (Layout.meshBlock [2, 2] ![[0], []] c) (refOut p g) := by
  have hc : c.val < 4 := c.isLt
  have key (y : S512x512.Idx) : (f : FVec Ideal S512x512 .bf16) y
      = (Layout.blockN ⟨2, ![512, 512]⟩ ⟨2, ![1024, 512]⟩ (Layout.meshBlock [2, 2] ![[0], []] c) (refOut p g)) y := by
    obtain ⟨i, j, rfl⟩ : ∃ (i j : Fin 512), y = ix2 i j := ⟨y 0, y 1, eq_ix2 y⟩
    rw [done_at m c p g h f hf i j (⟨512 * (c.val / 2) + i.val, by omega⟩ : Fin 1024) rfl, Layout.blockN_apply]
    refine congrArg (refOut p g) (funext fun ax => Fin.ext ?_)
    rw [Layout.TilesN.idx_val]
    fin_cases ax
    · show 512 * (c.val / 2) + i.val = Layout.meshLin [2, 2] c.val [0] * 512 + i.val
      rw [mesh_row]; omega
    · show j.val = 0 * 512 + j.val
      omega
  exact funext key

end Cert.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Launch
public import proofs.«01_k».proof.Proof.KernelIdeal.Launch
public import proofs.«01_k».proof.Proof.Value.Reads
public import Idealize.ShloMosaic.Adequacy
public import Idealize.ShloMosaic.Init

@[expose] public section

noncomputable section

namespace Cert.Proof

open Idealize.ShloMosaic Idealize.SL.Sem

/-- The kernel runs, leaves its arguments alone and every semaphore at zero. -/
theorem frame_kernel : Cert.quiescent_Kernel (hKernel := Cert.Kernel.Gen.facts) := fun m g _ =>
  (θ_run _ _ _).mono (fun _ h => ⟨fun c => ⟨(h.1 c).1, (h.1 c).2.1⟩, h.2⟩) (Cert.Kernel.Hand.run_main (F := Bits) m g)

/-- So does its reading over the extended reals. -/
theorem frame_ideal : Cert.quiescent_KernelIdeal (hKernelIdeal := Cert.KernelIdeal.Gen.facts) := fun m g _ =>
  (θ_run _ _ _).mono (fun _ h => ⟨fun c => ⟨(h.1 c).1, (h.1 c).2.1⟩, h.2⟩) (Cert.KernelIdeal.Hand.run_main (F := Ideal) m g)

/-- So does the reference. -/
theorem frame_reference : Cert.quiescent_ReferenceIdeal (hReferenceIdeal := Cert.ReferenceIdeal.Gen.facts) := fun m g _ =>
  (θ_run _ _ _).mono (fun r h => ⟨fun c => (h c).2, Idealize.ShloMosaic.sem_eq_zero_of_no_sems (by decide) r.2⟩)
    (Cert.ReferenceIdeal.Value.run (F := Ideal) m g)

/-- Every device ends with its block of what the reference computes. -/
theorem values : Cert.algebraic_KernelIdeal_ReferenceIdeal (hKernelIdeal := Cert.KernelIdeal.Gen.facts)
    (hReferenceIdeal := Cert.ReferenceIdeal.Gen.facts) := fun m g m' g' _ hag => by
  have hg := Cert.Hand.given_of_layout m _ _ hag
  exact ⟨_, (θ_run _ _ _).mono (fun _ h c => ⟨Cert.Hand.done_block m c _ _ hg _ (h.1 c).2.2, (h.1 c).1, (h.1 c).2.1⟩)
      (Cert.KernelIdeal.Hand.run_main (F := Ideal) m g),
    (θ_run _ _ _).mono (fun _ h => h 0) (Cert.ReferenceIdeal.Value.run (F := Ideal) m' g')⟩

/-- All that the certificate claims. -/
theorem claim : Cert.Claim := ⟨Cert.Kernel.Gen.facts, Cert.KernelIdeal.Gen.facts, Cert.ReferenceIdeal.Gen.facts,
  frame_kernel, frame_ideal, frame_reference, trivial, values⟩

end Cert.Proof

end
